-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 512]⟩ ⟨2, ![512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S128x512 : Shape := ⟨2, ![128, 512]⟩
abbrev S512x512 : Shape := ⟨2, ![512, 512]⟩
abbrev S4x128x512 : Shape := ⟨3, ![4, 128, 512]⟩
abbrev S3 : Shape := ⟨1, ![3]⟩
abbrev S4 : Shape := ⟨1, ![4]⟩
abbrev S_ : Shape := ⟨0, ![]⟩
abbrev S1 : Shape := ⟨1, ![1]⟩
abbrev S1x128x512 : Shape := ⟨3, ![1, 128, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S128x512, .f32⟩
  | .local _ .vmem, ⟨0, _⟩ => ⟨S512x256, .f32⟩
  | .local _ .vmem, ⟨1, _⟩ => ⟨S256x512, .f32⟩
  | .local _ .vmem, ⟨2, _⟩ => ⟨S128x512, .f32⟩
  | .local _ .vmem, ⟨3, _⟩ => ⟨S512x512, .f32⟩
  | .local _ .vmem, ⟨4, _⟩ => ⟨S512x512, .bf16⟩
  | .local _ .vmem, ⟨5, _⟩ => ⟨S4x128x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_47 : BitVec 32 := 0#32
  let c0_i32_48 : BitVec 32 := 0#32
  ![v2.toNat, 0, 0]
def k0_off3 (d0 : Dev nD) (c1_i32_37 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v56 : BitVec 32 := Scalar.addi v2 c1_i32_37
  let c4_i32_38 : BitVec 32 := 4#32
  let c0_i32_39 : BitVec 32 := 0#32
  let v57 : BitVec 1 := Scalar.cmpi .eq c4_i32_38 c0_i32_39
  let c1_i32_40 : BitVec 32 := 1#32
  let v58 : BitVec 32 := Scalar.select v57 c1_i32_40 c4_i32_38
  let v59 : BitVec 32 := Scalar.remsi v56 v58
  let c0_i32_42 : BitVec 32 := 0#32
  let v61 : BitVec 1 := Scalar.cmpi .slt v59 c0_i32_42
  let c0_i32_43 : BitVec 32 := 0#32
  let v62 : BitVec 1 := Scalar.cmpi .slt v58 c0_i32_43
  let v63 : BitVec 1 := Scalar.xori v61 v62
  let c0_i32_41 : BitVec 32 := 0#32
  let v60 : BitVec 1 := Scalar.cmpi .ne v59 c0_i32_41
  let v64 : BitVec 1 := Scalar.andi v63 v60
  let v65 : BitVec 32 := Scalar.addi v59 v58
  let v66 : BitVec 32 := Scalar.select v64 v65 v59
  let c128_i32 : BitVec 32 := 128#32
  let v67 : BitVec 32 := Scalar.muli v66 c128_i32
  let c0_i32_49 : BitVec 32 := 0#32
  ![v67.toNat, 0]
def k0_dev4 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_37 : BitVec 32 := 1#32
  let v56 : BitVec 32 := Scalar.addi v2 c1_i32_37
  let c4_i32_38 : BitVec 32 := 4#32
  let c0_i32_39 : BitVec 32 := 0#32
  let v57 : BitVec 1 := Scalar.cmpi .eq c4_i32_38 c0_i32_39
  let c1_i32_40 : BitVec 32 := 1#32
  let v58 : BitVec 32 := Scalar.select v57 c1_i32_40 c4_i32_38
  let v59 : BitVec 32 := Scalar.remsi v56 v58
  let c0_i32_42 : BitVec 32 := 0#32
  let v61 : BitVec 1 := Scalar.cmpi .slt v59 c0_i32_42
  let c0_i32_43 : BitVec 32 := 0#32
  let v62 : BitVec 1 := Scalar.cmpi .slt v58 c0_i32_43
  let v63 : BitVec 1 := Scalar.xori v61 v62
  let c0_i32_41 : BitVec 32 := 0#32
  let v60 : BitVec 1 := Scalar.cmpi .ne v59 c0_i32_41
  let v64 : BitVec 1 := Scalar.andi v63 v60
  let v65 : BitVec 32 := Scalar.addi v59 v58
  let v66 : BitVec 32 := Scalar.select v64 v65 v59
  let c1_i32_45 : BitVec 32 := 1#32
  let v68 : BitVec 32 := Scalar.muli v66 c1_i32_45
  let v69 : BitVec 32 := Scalar.addi c0_i32_46 v68
  v69.toNat
def k0_dev5 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_50 : BitVec 32 := 2#32
  let v77 : BitVec 32 := Scalar.addi v2 c2_i32_50
  let c4_i32_51 : BitVec 32 := 4#32
  let c0_i32_52 : BitVec 32 := 0#32
  let v78 : BitVec 1 := Scalar.cmpi .eq c4_i32_51 c0_i32_52
  let c1_i32_53 : BitVec 32 := 1#32
  let v79 : BitVec 32 := Scalar.select v78 c1_i32_53 c4_i32_51
  let v80 : BitVec 32 := Scalar.remsi v77 v79
  let c0_i32_55 : BitVec 32 := 0#32
  let v82 : BitVec 1 := Scalar.cmpi .slt v80 c0_i32_55
  let c0_i32_56 : BitVec 32 := 0#32
  let v83 : BitVec 1 := Scalar.cmpi .slt v79 c0_i32_56
  let v84 : BitVec 1 := Scalar.xori v82 v83
  let c0_i32_54 : BitVec 32 := 0#32
  let v81 : BitVec 1 := Scalar.cmpi .ne v80 c0_i32_54
  let v85 : BitVec 1 := Scalar.andi v84 v81
  let v86 : BitVec 32 := Scalar.addi v80 v79
  let v87 : BitVec 32 := Scalar.select v85 v86 v80
  let c1_i32_59 : BitVec 32 := 1#32
  let v89 : BitVec 32 := Scalar.muli v87 c1_i32_59
  let v90 : BitVec 32 := Scalar.addi c0_i32_60 v89
  v90.toNat
def k0_dev6 (d0 : Dev nD) : Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_64 : BitVec 32 := 3#32
  let v98 : BitVec 32 := Scalar.addi v2 c3_i32_64
  let c4_i32_65 : BitVec 32 := 4#32
  let c0_i32_66 : BitVec 32 := 0#32
  let v99 : BitVec 1 := Scalar.cmpi .eq c4_i32_65 c0_i32_66
  let c1_i32_67 : BitVec 32 := 1#32
  let v100 : BitVec 32 := Scalar.select v99 c1_i32_67 c4_i32_65
  let v101 : BitVec 32 := Scalar.remsi v98 v100
  let c0_i32_69 : BitVec 32 := 0#32
  let v103 : BitVec 1 := Scalar.cmpi .slt v101 c0_i32_69
  let c0_i32_70 : BitVec 32 := 0#32
  let v104 : BitVec 1 := Scalar.cmpi .slt v100 c0_i32_70
  let v105 : BitVec 1 := Scalar.xori v103 v104
  let c0_i32_68 : BitVec 32 := 0#32
  let v102 : BitVec 1 := Scalar.cmpi .ne v101 c0_i32_68
  let v106 : BitVec 1 := Scalar.andi v105 v102
  let v107 : BitVec 32 := Scalar.addi v101 v100
  let v108 : BitVec 32 := Scalar.select v106 v107 v101
  let c1_i32_73 : BitVec 32 := 1#32
  let v110 : BitVec 32 := Scalar.muli v108 c1_i32_73
  let v111 : BitVec 32 := Scalar.addi c0_i32_74 v110
  v111.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_78 : BitVec 32 := 128#32
  let v119 : BitVec 32 := Scalar.muli v2 c128_i32_78
  let v120 : Index := Scalar.indexCast v119
  let c0_79 : Index := 0#32
  ![v120.toNat, 0]
def k0_off5 (d0 : Dev nD) (c3_i32_82 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v123 : BitVec 32 := Scalar.addi v2 c3_i32_82
  let c4_i32_83 : BitVec 32 := 4#32
  let c0_i32_84 : BitVec 32 := 0#32
  let v124 : BitVec 1 := Scalar.cmpi .eq c4_i32_83 c0_i32_84
  let c1_i32_85 : BitVec 32 := 1#32
  let v125 : BitVec 32 := Scalar.select v124 c1_i32_85 c4_i32_83
  let v126 : BitVec 32 := Scalar.remsi v123 v125
  let c0_i32_87 : BitVec 32 := 0#32
  let v128 : BitVec 1 := Scalar.cmpi .slt v126 c0_i32_87
  let c0_i32_88 : BitVec 32 := 0#32
  let v129 : BitVec 1 := Scalar.cmpi .slt v125 c0_i32_88
  let v130 : BitVec 1 := Scalar.xori v128 v129
  let c0_i32_86 : BitVec 32 := 0#32
  let v127 : BitVec 1 := Scalar.cmpi .ne v126 c0_i32_86
  let v131 : BitVec 1 := Scalar.andi v130 v127
  let v132 : BitVec 32 := Scalar.addi v126 v125
  let v133 : BitVec 32 := Scalar.select v131 v132 v126
  ![v133.toNat]
def k0_off6 (d0 : Dev nD) (c3_i32_82 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v123 : BitVec 32 := Scalar.addi v2 c3_i32_82
  let c4_i32_83 : BitVec 32 := 4#32
  let c0_i32_84 : BitVec 32 := 0#32
  let v124 : BitVec 1 := Scalar.cmpi .eq c4_i32_83 c0_i32_84
  let c1_i32_85 : BitVec 32 := 1#32
  let v125 : BitVec 32 := Scalar.select v124 c1_i32_85 c4_i32_83
  let v126 : BitVec 32 := Scalar.remsi v123 v125
  let c0_i32_87 : BitVec 32 := 0#32
  let v128 : BitVec 1 := Scalar.cmpi .slt v126 c0_i32_87
  let c0_i32_88 : BitVec 32 := 0#32
  let v129 : BitVec 1 := Scalar.cmpi .slt v125 c0_i32_88
  let v130 : BitVec 1 := Scalar.xori v128 v129
  let c0_i32_86 : BitVec 32 := 0#32
  let v127 : BitVec 1 := Scalar.cmpi .ne v126 c0_i32_86
  let v131 : BitVec 1 := Scalar.andi v130 v127
  let v132 : BitVec 32 := Scalar.addi v126 v125
  let v133 : BitVec 32 := Scalar.select v131 v132 v126
  let c0_i32_92 : BitVec 32 := 0#32
  let c0_i32_93 : BitVec 32 := 0#32
  ![v133.toNat, 0, 0]
def k0_off7 (d0 : Dev nD) (c3_i32_82 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v123 : BitVec 32 := Scalar.addi v2 c3_i32_82
  let c4_i32_83 : BitVec 32 := 4#32
  let c0_i32_84 : BitVec 32 := 0#32
  let v124 : BitVec 1 := Scalar.cmpi .eq c4_i32_83 c0_i32_84
  let c1_i32_85 : BitVec 32 := 1#32
  let v125 : BitVec 32 := Scalar.select v124 c1_i32_85 c4_i32_83
  let v126 : BitVec 32 := Scalar.remsi v123 v125
  let c0_i32_87 : BitVec 32 := 0#32
  let v128 : BitVec 1 := Scalar.cmpi .slt v126 c0_i32_87
  let c0_i32_88 : BitVec 32 := 0#32
  let v129 : BitVec 1 := Scalar.cmpi .slt v125 c0_i32_88
  let v130 : BitVec 1 := Scalar.xori v128 v129
  let c0_i32_86 : BitVec 32 := 0#32
  let v127 : BitVec 1 := Scalar.cmpi .ne v126 c0_i32_86
  let v131 : BitVec 1 := Scalar.andi v130 v127
  let v132 : BitVec 32 := Scalar.addi v126 v125
  let v133 : BitVec 32 := Scalar.select v131 v132 v126
  let v143 : Index := Scalar.indexCast v133
  let c0_98 : Index := 0#32
  let c0_99 : Index := 0#32
  ![v143.toNat, 0, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x512, .f32⟩
  | .hbm, ⟨2, _⟩ => ⟨S512x512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Slots.lean ====
/-
# The mesh's peers, and the two scratch buffers cut into pieces

Each of the four devices sends one row block of its rounded partial product to each of the other three. A device's
peers are named by the distance `k + 1` to them (`pr k c`). The receive buffer is cut into four slots, one per
sender, and the rounded partial product into four row blocks, one per receiver.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.Scatter

open Cert.KernelIdeal Cert.KernelIdeal.Gen
open Idealize.ShloMosaic Idealize.ShloMosaic.TcCoe

/-! ## Peers -/

set_option backward.proofsInPublic true in
/-- The device `k + 1` places after `c` on the ring of four. -/
def pr (k : Fin 3) (c : Dev nD) : Dev nD := ⟨(c.val + k.val + 1) % 4, Nat.mod_lt _ (by decide)⟩

/-- A device is none of its peers. -/
theorem pr_ne (k : Fin 3) (c : Dev nD) : pr k c ≠ c := by revert k c; decide
/-- A device's three peers are distinct and are all the others. -/
theorem peers_nodup (c : Dev nD) : [pr 0 c, pr 1 c, pr 2 c].Nodup := by revert c; decide
/-- The other devices are the three peers. -/
theorem peers_others (c : Dev nD) : Finset.univ.erase c = [pr 0 c, pr 1 c, pr 2 c].toFinset := by revert c; decide
/-- The device and its peers are distinct. -/
theorem all_nodup (c : Dev nD) : [c, pr 0 c, pr 1 c, pr 2 c].Nodup := by revert c; decide
/-- The device and its peers are all the devices. -/
theorem all_univ (c : Dev nD) : (Finset.univ : Finset (Dev nD)) = [c, pr 0 c, pr 1 c, pr 2 c].toFinset := by
  revert c; decide

/-- The three signals go to the three peers in order of distance; -/
theorem dev1_eq (c : Dev nD) : (⟨k0_dev1 c, k0_dev1_lt c⟩ : Dev nD) = pr 0 c := by revert c; decide +kernel
/-- the second signal to the peer at distance two; -/
theorem dev2_eq (c : Dev nD) : (⟨k0_dev2 c, k0_dev2_lt c⟩ : Dev nD) = pr 1 c := by revert c; decide +kernel
/-- the third to the peer at distance three. -/
theorem dev3_eq (c : Dev nD) : (⟨k0_dev3 c, k0_dev3_lt c⟩ : Dev nD) = pr 2 c := by revert c; decide +kernel
/-- and so do the three transfers. -/
theorem dev4_eq (c : Dev nD) : (⟨k0_dev4 c, k0_dev4_lt c⟩ : Dev nD) = pr 0 c := by revert c; decide +kernel
/-- the second transfer to the peer at distance two; -/
theorem dev5_eq (c : Dev nD) : (⟨k0_dev5 c, k0_dev5_lt c⟩ : Dev nD) = pr 1 c := by revert c; decide +kernel
/-- the third to the peer at distance three. -/
theorem dev6_eq (c : Dev nD) : (⟨k0_dev6 c, k0_dev6_lt c⟩ : Dev nD) = pr 2 c := by revert c; decide +kernel

/-- The block sent at distance `k + 1` starts at the row of that peer's block; -/
theorem off3_eq (c : Dev nD) (k : Fin 3) : k0_off3 c (BitVec.ofNat 32 (1 + k.val)) = ![128 * (pr k c).val, 0] := by
  revert c k; decide +kernel
/-- the receive semaphore waited for at distance `k + 1` is that peer's; -/
theorem off5_eq (c : Dev nD) (k : Fin 3) : k0_off5 c (BitVec.ofNat 32 (1 + k.val)) = ![(pr k c).val] := by
  revert c k; decide +kernel
/-- the slot awaited is that peer's; -/
theorem off6_eq (c : Dev nD) (k : Fin 3) : k0_off6 c (BitVec.ofNat 32 (1 + k.val)) = ![(pr k c).val, 0, 0] := by
  revert c k; decide +kernel
/-- and so is the slot read. -/
theorem off7_eq (c : Dev nD) (k : Fin 3) : k0_off7 c (BitVec.ofNat 32 (1 + k.val)) = ![(pr k c).val, 0, 0] := by
  revert c k; decide +kernel

/-! ## The memrefs -/

abbrev aM : Memref sig .tc .vmem S512x256 .f32 := Memref.whole cc0_stg0_0
abbrev bM : Memref sig .tc .vmem S256x512 .f32 := Memref.whole cc0_stg1_0
abbrev oM : Memref sig .tc .vmem S128x512 .f32 := Memref.whole cc0_stg2_0
abbrev pM : Memref sig .tc .vmem S512x512 .f32 := Memref.whole cc0_scratch0
abbrev qM : Memref sig .tc .vmem S512x512 .bf16 := Memref.whole cc0_scratch1
abbrev rM : Memref sig .tc .vmem S4x128x512 .bf16 := Memref.whole cc0_scratch2

/-- Slot `s` lies inside the receive buffer. -/
theorem slot_inb (s : Dev nD) : ∀ a, (![s.val, 0, 0] : Fin 3 → ℕ) a + S1x128x512.size a ≤ S4x128x512.size a := by
  revert s; decide +kernel
/-- Row block `d` lies inside the rounded partial product. -/
theorem row_inb (d : Dev nD) : ∀ a, (![128 * d.val, 0] : Fin 2 → ℕ) a + S128x512.size a ≤ S512x512.size a := by
  revert d; decide +kernel

/-- Slot `s` of the receive buffer as a rectangle, and row block `d` of the partial product. -/
abbrev slotR (s : Dev nD) : Rect S4x128x512 := Rect.unit (s := S4x128x512) ![s.val, 0, 0] S1x128x512.size (slot_inb s)
abbrev rowR (d : Dev nD) : Rect S512x512 := Rect.unit (s := S512x512) ![128 * d.val, 0] S128x512.size (row_inb d)

/-- Slot `s` of the receive buffer as the transfers name it: a block of 128 rows. -/
abbrev slotM (s : Dev nD) : Memref sig .tc .vmem S128x512 .bf16 :=
  (rM.slice (slotR s) (fun _ => rfl)).squeeze S128x512 squeezes_S1x128x512_S128x512
/-- Row block `d` of the rounded partial product. -/
abbrev rowM (d : Dev nD) : Memref sig .tc .vmem S128x512 .bf16 := qM.slice (rowR d) (fun _ => rfl)

/-- Their elements, in the buffers they are cut from. -/
abbrev slotSet (s : Dev nD) : Finset S4x128x512.Idx := (slotM s).view.set
abbrev rowSet (d : Dev nD) : Finset S512x512.Idx := (rowM d).view.set

/-- The elements of slot `s`: those whose first coordinate is `s`. -/
theorem mem_slot (s : Dev nD) (i : S4x128x512.Idx) : i ∈ (slotM s).view.set ↔ (i 0).val = s.val := by
  have h : (slotM s).view.set = (slotR s).set := by
    show (((View.whole cc0_scratch2).slice (slotR s)).reshape S128x512 _).set = _
    rw [View.set_reshape, View.set_slice_whole]
  rw [h, Rect.mem_set_unit]
  constructor
  · intro hi
    have h0 := hi 0
    have e : S1x128x512.size 0 = 1 := rfl
    simp only [Matrix.cons_val_zero, e] at h0
    omega
  · intro hi a
    have h1 := (i 1).isLt
    have h2 := (i 2).isLt
    match a with
    | 0 => exact ⟨le_of_eq hi.symm, by show (i 0).val < s.val + 1; omega⟩
    | 1 => exact ⟨Nat.zero_le _, by show (i 1).val < 0 + 128; rw [Nat.zero_add]; exact h1⟩
    | 2 => exact ⟨Nat.zero_le _, by show (i 2).val < 0 + 512; rw [Nat.zero_add]; exact h2⟩

/-- The elements of row block `d`: those whose row is among its 128. -/
theorem mem_row (d : Dev nD) (i : S512x512.Idx) : i ∈ (rowM d).view.set ↔ (i 0).val / 128 = d.val := by
  have h : (rowM d).view.set = (rowR d).set := by
    show ((View.whole cc0_scratch1).slice (rowR d)).set = _
    rw [View.set_slice_whole]
  rw [h, Rect.mem_set_unit]
  constructor
  · intro hi
    have h0 := hi 0
    have e : S128x512.size 0 = 128 := rfl
    simp only [Matrix.cons_val_zero, e] at h0
    omega
  · intro hi a
    have h2 := (i 1).isLt
    match a with
    | 0 =>
      refine ⟨?_, ?_⟩
      · show 128 * d.val ≤ (i 0).val
        omega
      · show (i 0).val < 128 * d.val + 128
        omega
    | 1 => exact ⟨Nat.zero_le _, by show (i 1).val < 0 + 512; rw [Nat.zero_add]; exact h2⟩

/-- Two slots share no element, -/
theorem slot_disjoint (s t : Dev nD) (h : s ≠ t) : Disjoint (slotM s).view.set (slotM t).view.set :=
  Finset.disjoint_left.mpr fun i hi hj => h (Fin.ext (((mem_slot s i).mp hi).symm.trans ((mem_slot t i).mp hj)))
/-- and the four make up the receive buffer. -/
theorem slot_cover : (Finset.univ : Finset (Dev nD)).biUnion (fun s => slotSet s) = Finset.univ :=
  Finset.eq_univ_iff_forall.mpr fun i => Finset.mem_biUnion.mpr
    ⟨(⟨(i 0).val, (i 0).isLt⟩ : Fin 4), Finset.mem_univ _, (mem_slot _ i).mpr rfl⟩
/-- Two row blocks share no element, -/
theorem row_disjoint (s t : Dev nD) (h : s ≠ t) : Disjoint (rowM s).view.set (rowM t).view.set :=
  Finset.disjoint_left.mpr fun i hi hj => h (Fin.ext (((mem_row s i).mp hi).symm.trans ((mem_row t i).mp hj)))
/-- and the four make up the partial product. -/
theorem row_cover : (Finset.univ : Finset (Dev nD)).biUnion (fun d => rowSet d) = Finset.univ :=
  Finset.eq_univ_iff_forall.mpr fun i => Finset.mem_biUnion.mpr
    ⟨(⟨(i 0).val / 128, by have h : (i 0).val < 512 := (i 0).isLt; omega⟩ : Fin 4), Finset.mem_univ _, (mem_row _ i).mpr rfl⟩

/-! ## What lands in a slot -/

section Landing

variable {Val : EltTy → Type}

/-- Row block `d`'s row `r`, of the partial product. -/
abbrev rowIx (d : Dev nD) (r : Fin 128) (j : Fin 512) : S512x512.Idx := fun a => match a with
  | ⟨0, _⟩ => (⟨128 * d.val + r.val, by have h : d.val < 4 := d.isLt; have := r.isLt; omega⟩ : Fin 512)
  | ⟨1, _⟩ => j

/-- The receive buffer of device `c` with every slot filled: slot `s` holds row block `c` of device `s`'s `q s`. -/
def gathered (q : Dev nD → (cc0_scratch1 : Ref sig .tc).ty.Contents Val) (c : Dev nD) :
    (cc0_scratch2 : Ref sig .tc).ty.Contents Val :=
  fun i => q (i 0) (rowIx c (i 1) (i 2))

/-- Element `x` of slot `s`, in the receive buffer. -/
theorem slot_emb (s : Dev nD) (x : S128x512.Idx) (a : Fin 3) :
    ((slotM s).view.emb x a : ℕ) = (![s.val, (x 0).val, (x 1).val] : Fin 3 → ℕ) a := by
  have h : (slotM s).view.emb x = (slotR s).emb (Fin.cons ⟨0, Nat.one_pos⟩ x) :=
    congrArg (slotR s).emb (Shape.reshapeEquiv_cons_one (d := ![128, 512]) _ x)
  rw [h, Rect.emb_apply]
  match a with
  | 0 => rfl
  | 1 => show 0 + 1 * (x 0).val = (x 0).val; omega
  | 2 => show 0 + 1 * (x 1).val = (x 1).val; omega

/-- Element `x` of row block `d`, in the partial product. -/
theorem row_emb (d : Dev nD) (x : S128x512.Idx) (a : Fin 2) :
    ((rowM d).view.emb x a : ℕ) = (![128 * d.val + (x 0).val, (x 1).val] : Fin 2 → ℕ) a := by
  have h : (rowM d).view.emb x = (rowR d).emb x := rfl
  rw [h, Rect.emb_apply]
  match a with
  | 0 => show 128 * d.val + 1 * (x 0).val = 128 * d.val + (x 0).val; omega
  | 1 => show 0 + 1 * (x 1).val = (x 1).val; omega

/-- Copying row block `c` of device `s`'s into slot `s` of device `c` leaves that slot as `gathered` has it. -/
theorem gathered_write (q : Dev nD → (cc0_scratch1 : Ref sig .tc).ty.Contents Val) (c s : Dev nD)
    (fd : (cc0_scratch2 : Ref sig .tc).ty.Contents Val) :
    ∀ i ∈ (slotM s).view.set,
      (slotM s).view.write Val fd ((rowM c).view.read Val (q s)) Finset.univ i = gathered q c i := by
  intro i hi
  obtain ⟨x, -, rfl⟩ := Finset.mem_map.mp hi
  rw [View.write_emb_of_mem _ _ (Finset.mem_univ x)]
  have e0 : (slotM s).view.emb x 0 = s := Fin.ext (slot_emb s x 0)
  have e1 : rowIx c ((slotM s).view.emb x 1) ((slotM s).view.emb x 2) = (rowM c).view.emb x := by
    funext a
    apply Fin.ext
    rw [row_emb]
    match a with
    | 0 => exact congrArg (128 * c.val + ·) (slot_emb s x 1)
    | 1 => exact slot_emb s x 2
  show q s ((rowM c).view.emb x) = q ((slotM s).view.emb x 0) (rowIx c ((slotM s).view.emb x 1) ((slotM s).view.emb x 2))
  rw [e1, e0]

end Landing

end Cert.Scatter

end
-- ==== Proof.Protocol.lean ====
/-
# The protocol of the exchange

Every device signals the barrier of each of its three peers, waits for three signals, copies one row block of its
rounded partial product to each peer, and waits for the three blocks sent to it and for its own three departures.
Each semaphore runs one round. Who pays what, and what each payment hands over:

* the barrier of device `p` is paid one unit by every other device `d`, which hands `p` slot `p` of `d`'s receive
  buffer;
* the receive semaphore `s` of device `c` is paid by device `s`'s copy, which hands `c` its slot `s`, filled;
* the send semaphore `k` of device `c` is paid by the departure of `c`'s own copy at distance `k + 1`, which gives the
  row block copied back.

A payment is named by the device that makes it.
-/
module

public import proofs.«01_k».proof.Proof.Slots
public import Idealize.ShloMosaic.Lib.Ring

@[expose] public section

set_option maxRecDepth 16384

noncomputable section

namespace Cert.Scatter

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state: the staging copies' and the exchange's -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state at launch: any contents, every counter at zero, any generator registers. -/
def s₀ : MemSt nD τ sig (Elt F) := ⟨m, fun _ => 0, ρ⟩

/-! ## Semaphores and cells -/

/-- The barrier semaphore the runtime provides. -/
abbrev barS : Sem sig := (SemArray.scalar (sig.barrier 0 rfl) : Sems sig S_).sem
set_option backward.proofsInPublic true in
/-- The send semaphore of the copy at distance `k + 1`. -/
def sendS (k : Fin 3) : DmaSem sig := (⟨3 + k.val, by omega⟩ : Fin 10)
set_option backward.proofsInPublic true in
/-- The receive semaphore of the block that device `s` sends. -/
def recvS (s : Dev nD) : DmaSem sig := (⟨6 + s.val, by have h : s.val < 4 := s.isLt; omega⟩ : Fin 10)

/-- The send semaphores as the kernel's text spells them; -/
theorem sendS_0 : ((cc0_scratch3.slice (Rect.unit (s := S3) ![0] S1.size inb_S3_S1_0)).squeeze S_ squeezes_S1_S_).sem = sendS 0 := by decide +kernel
/-- The second transfer's send semaphore, as the kernel names it; -/
theorem sendS_1 : ((cc0_scratch3.slice (Rect.unit (s := S3) ![1] S1.size inb_S3_S1_1)).squeeze S_ squeezes_S1_S_).sem = sendS 1 := by decide +kernel
/-- and the third's. -/
theorem sendS_2 : ((cc0_scratch3.slice (Rect.unit (s := S3) ![2] S1.size inb_S3_S1_2)).squeeze S_ squeezes_S1_S_).sem = sendS 2 := by decide +kernel
/-- the receive semaphore a copy credits is the sender's; -/
theorem recvS_send (c : Dev nD) :
    ((cc0_scratch4.slice (Rect.unit (s := S4) (k0_off1 c) S1.size (k0_off1_inb c))).squeeze S_ squeezes_S1_S_).sem = recvS c := by
  revert c; decide +kernel
/-- the one waited for at distance `k + 1` is that peer's. -/
theorem recvS_wait (c : Dev nD) (k : Fin 3) :
    ((cc0_scratch4.slice (Rect.unit (s := S4) (k0_off5 c (BitVec.ofNat 32 (1 + k.val))) S1.size (k0_off5_inb c k))).squeeze S_ squeezes_S1_S_).sem
      = recvS (pr k c) := by
  revert c k; decide +kernel

abbrev barCell (c : Dev nD) : GSem nD τ sig := ((c : Thread nD τ), .reg barS)
abbrev sendCell (c : Dev nD) (k : Fin 3) : GSem nD τ sig := ((c : Thread nD τ), .dma (sendS k))
abbrev recvCell (c s : Dev nD) : GSem nD τ sig := ((c : Thread nD τ), .dma (recvS s))

/-- The kernel's own seven semaphores: three send, four receive; -/
abbrev osem : Fin 7 → SemLoc sig := fun
  | 0 => .dma (sendS 0) | 1 => .dma (sendS 1) | 2 => .dma (sendS 2)
  | 3 => .dma (recvS 0) | 4 => .dma (recvS 1) | 5 => .dma (recvS 2) | 6 => .dma (recvS 3)
/-- and those of the exchange, the barrier first. -/
abbrev csem : Fin 8 → SemLoc sig := fun
  | 0 => .reg barS
  | 1 => .dma (sendS 0) | 2 => .dma (sendS 1) | 3 => .dma (sendS 2)
  | 4 => .dma (recvS 0) | 5 => .dma (recvS 1) | 6 => .dma (recvS 2) | 7 => .dma (recvS 3)
/-- Cell `k` of device `c`. -/
abbrev kcell (ck : Dev nD × Fin 8) : GSem nD τ sig := ((ck.1 : Thread nD τ), csem ck.2)

set_option backward.proofsInPublic true in
/-- Where the send and receive semaphores stand in that list. -/
def sendI (k : Fin 3) : Fin 8 := ⟨1 + k.val, by omega⟩
set_option backward.proofsInPublic true in
def recvI (s : Dev nD) : Fin 8 := ⟨4 + s.val, by have h : s.val < 4 := s.isLt; omega⟩
/-- A send cell's semaphore is the send semaphore of its distance; -/
theorem csem_send (k : Fin 3) : csem (sendI k) = .dma (sendS k) := by revert k; decide
/-- a receive cell's is the receive semaphore of its sender. -/
theorem csem_recv (s : Dev nD) : csem (recvI s) = .dma (recvS s) := by revert s; decide

/-- One block's credit. -/
abbrev N : ℕ := (slotM (0 : Fin 4)).view.dmaCredit
/-- It is not nothing. -/
theorem N_pos : 0 < N := View.dmaCredit_pos _ (by decide)
/-- Every slot and every row block carries it. -/
theorem slot_credit (s : Dev nD) : (slotM s).view.dmaCredit = N := rfl
/-- Copying a row block pays the same credit as filling a slot. -/
theorem row_credit (d : Dev nD) : (rowM d).view.dmaCredit = N := rfl

/-! ## Contents -/

/-- Device `c`'s column block of `A` and row block of `B`, as staged; -/
def aStg (c : Dev nD) : (cc0_stg0_0 : Ref sig .tc).ty.Contents (Elt F) :=
  (win0_0.blk (0 : Fin 1)).view.read (Elt F) ((s₀ m ρ).mem ((c : Thread nD τ).loc main_arg0))
def bStg (c : Dev nD) : (cc0_stg1_0 : Ref sig .tc).ty.Contents (Elt F) :=
  (win0_1.blk (0 : Fin 1)).view.read (Elt F) ((s₀ m ρ).mem ((c : Thread nD τ).loc main_arg1))
/-- its partial product, -/
def part (c : Dev nD) : (cc0_scratch0 : Ref sig .tc).ty.Contents (Elt F) := k0_pay2 (aStg m ρ c) (bStg m ρ c)
/-- the partial product rounded for the exchange, -/
def pbf (c : Dev nD) : (cc0_scratch1 : Ref sig .tc).ty.Contents (Elt F) := k0_pay3 (part m ρ c)
/-- and its receive buffer, every slot filled. -/
def recvd (c : Dev nD) : (cc0_scratch2 : Ref sig .tc).ty.Contents (Elt F) := gathered (pbf m ρ) c

/-- Slot `s` of device `c`'s receive buffer at `f`; row block `d` of its rounded partial product at `f`. -/
def slotPts (c s : Dev nD) (f : (cc0_scratch2 : Ref sig .tc).ty.Contents (Elt F)) : sProp 𝕄 :=
  (slotM s).view.loc (c : Thread nD τ) ↦[(slotM s).view.set]{fullShare} f
def rowPts (c d : Dev nD) (f : (cc0_scratch1 : Ref sig .tc).ty.Contents (Elt F)) : sProp 𝕄 :=
  (rowM d).view.loc (c : Thread nD τ) ↦[(rowM d).view.set]{fullShare} f
/-- Slot `s` of device `c`'s at some contents. -/
def slotAny (c s : Dev nD) : sProp 𝕄 := iprop(∃ f, slotPts (F := F) c s f)

instance slotPts_storable (c s : Dev nD) (f) : BI.Storable (upEmb : UEmb _ 𝕄) (slotPts (F := F) c s f) := by
  unfold slotPts; infer_instance
instance rowPts_storable (c d : Dev nD) (f) : BI.Storable (upEmb : UEmb _ 𝕄) (rowPts (F := F) c d f) := by
  unfold rowPts; infer_instance
instance slotAny_storable (c s : Dev nD) : BI.Storable (upEmb : UEmb _ 𝕄) (slotAny (F := F) c s) := by
  unfold slotAny; infer_instance

/-- The receive buffer held whole is its own slot and its peers'; -/
theorem recv_split (c : Dev nD) (f : (cc0_scratch2 : Ref sig .tc).ty.Contents (Elt F)) :
    ((((c : Thread nD τ).loc cc0_scratch2) ↦{fullShare} f) : sProp 𝕄)
      = iprop(slotPts c c f ∗ slotPts c (pr 0 c) f ∗ slotPts c (pr 1 c) f ∗ slotPts c (pr 2 c) f) := by
  rw [Ring.pointsTo_blocks (ℓ := (c : Thread nD τ).loc cc0_scratch2) (fun s : Dev nD => slotSet s) slot_disjoint slot_cover f,
    bigSep_eq_bigSepL_of_eq [c, pr 0 c, pr 1 c, pr 2 c] (all_univ c) (all_nodup c)]
  rfl
/-- so is the rounded partial product, by row blocks; -/
theorem row_split (c : Dev nD) (f : (cc0_scratch1 : Ref sig .tc).ty.Contents (Elt F)) :
    ((((c : Thread nD τ).loc cc0_scratch1) ↦{fullShare} f) : sProp 𝕄)
      = iprop(rowPts c c f ∗ rowPts c (pr 0 c) f ∗ rowPts c (pr 1 c) f ∗ rowPts c (pr 2 c) f) := by
  rw [Ring.pointsTo_blocks (ℓ := (c : Thread nD τ).loc cc0_scratch1) (fun d : Dev nD => rowSet d) row_disjoint row_cover f,
    bigSep_eq_bigSepL_of_eq [c, pr 0 c, pr 1 c, pr 2 c] (all_univ c) (all_nodup c)]
  rfl
/-- and slots held at contents of their own make up a receive buffer at some contents. -/
theorem recv_join (c : Dev nD) (f₀ : (cc0_scratch2 : Ref sig .tc).ty.Contents (Elt F)) :
    iprop(slotAny (F := F) c c ∗ slotAny c (pr 0 c) ∗ slotAny c (pr 1 c) ∗ slotAny c (pr 2 c))
      ⊢ (iprop(∃ g, ((c : Thread nD τ).loc cc0_scratch2) ↦{fullShare} g) : sProp 𝕄) := by
  refine BI.Entails.trans ?_ (Ring.pointsTo_blocks_join_exists (ℓ := (c : Thread nD τ).loc cc0_scratch2)
    (fun s : Dev nD => slotSet s) slot_disjoint slot_cover f₀)
  rw [bigSep_eq_bigSepL_of_eq [c, pr 0 c, pr 1 c, pr 2 c] (all_univ c) (all_nodup c)]
  exact BI.Entails.refl _

/-! ## The schedule -/

set_option backward.proofsInPublic true in
/-- The sender a receive semaphore stands for, and the distance a send semaphore stands for. -/
def slotOf (q : DmaSem sig) : Dev nD := ⟨(q.val + 2) % 4, Nat.mod_lt _ (by decide)⟩
set_option backward.proofsInPublic true in
def distOf (q : DmaSem sig) : Fin 3 := ⟨q.val % 3, Nat.mod_lt _ (by decide)⟩
/-- A receive semaphore names the slot of its sender; -/
theorem slotOf_recv (s : Dev nD) : slotOf (recvS s) = s := by revert s; decide
/-- a send semaphore names its distance. -/
theorem distOf_send (k : Fin 3) : distOf (sendS k) = k := by revert k; decide

/-- Who pays device `c`'s semaphore; -/
def payers (c : Dev nD) : SemLoc sig → Finset (Dev nD)
  | .reg _ => Finset.univ.erase c
  | .dma q => if q.val < 3 then ∅ else if q.val < 6 then {c} else if slotOf q = c then ∅ else {slotOf q}
/-- how much; -/
def paid : SemLoc sig → ℕ
  | .reg _ => 1
  | .dma _ => N
/-- and what is handed over by payer `d`. -/
def handed (c : Dev nD) (d : Dev nD) : SemLoc sig → sProp 𝕄
  | .reg _ => slotAny d c
  | .dma q => if q.val < 6 then rowPts c (pr (distOf q) c) (pbf m ρ c) else slotPts c (slotOf q) (recvd m ρ c)

/-- The schedule: one round, round 0, on each device's compute core. -/
def rd : Rounds.Schedule (GSem nD τ sig) (Dev nD) 𝕄 where
  duties g r := if r = 0 ∧ g.1.2 = .tc then payers g.1.1 g.2 else ∅
  unitless _ := False
  amount g _ _ := paid g.2
  payload g _ d := handed m ρ g.1.1 d g.2
  amount_pos g _ _ _ := by
    obtain ⟨t, s⟩ := g
    cases s with
    | reg _ => exact Nat.one_pos
    | dma _ => exact N_pos

instance rd_payload_storable (g : GSem nD τ sig) (r : ℕ) (d : Dev nD) :
    BI.Storable (upEmb : UEmb _ 𝕄) ((rd (F := F) m ρ).payload g r d) := by
  obtain ⟨t, s⟩ := g
  show BI.Storable upEmb (handed m ρ t.1 d s)
  cases s with
  | reg _ => show BI.Storable upEmb (slotAny d t.1); infer_instance
  | dma q =>
    show BI.Storable upEmb (if q.val < 6 then rowPts t.1 (pr (distOf q) t.1) (pbf m ρ t.1) else slotPts t.1 (slotOf q) (recvd m ρ t.1))
    split <;> infer_instance

section Tables
variable (c : Dev nD)

/-- In round 0 a device's semaphore is paid by its payers. -/
theorem duties_at (sm : SemLoc sig) : (rd (F := F) m ρ).duties ((c : Thread nD τ), sm) 0 = payers c sm := by
  dsimp only [rd]; exact if_pos ⟨rfl, rfl⟩
/-- The payers of each cell: a barrier's are the other devices; -/
theorem duties_bar : (rd (F := F) m ρ).duties (barCell c) 0 = Finset.univ.erase c := duties_at m ρ c _
/-- a send cell's is its own device; -/
theorem duties_send (k : Fin 3) : (rd (F := F) m ρ).duties (sendCell c k) 0 = {c} := by
  rw [duties_at]
  show (if (sendS k).val < 3 then ∅ else if (sendS k).val < 6 then {c} else _ : Finset (Dev nD)) = {c}
  have h : (sendS k).val = 3 + k.val := rfl
  have := k.isLt
  rw [if_neg (by omega), if_pos (by omega)]
/-- a receive cell's is the sender it stands for, -/
theorem duties_recv (s : Dev nD) (h : s ≠ c) : (rd (F := F) m ρ).duties (recvCell c s) 0 = {s} := by
  rw [duties_at]
  show (if (recvS s).val < 3 then ∅ else if (recvS s).val < 6 then {c} else if slotOf (recvS s) = c then ∅ else {slotOf (recvS s)} : Finset (Dev nD)) = {s}
  have h' : (recvS s).val = 6 + s.val := rfl
  rw [if_neg (by omega), if_neg (by omega), slotOf_recv, if_neg h]
/-- a device's own receive cell has none, -/
theorem duties_self (r : ℕ) : (rd (F := F) m ρ).duties (recvCell c c) r = ∅ := by
  by_cases hr : r = 0
  · subst hr
    rw [duties_at]
    show (if (recvS c).val < 3 then ∅ else if (recvS c).val < 6 then {c} else if slotOf (recvS c) = c then ∅ else {slotOf (recvS c)} : Finset (Dev nD)) = ∅
    have h' : (recvS c).val = 6 + c.val := rfl
    rw [if_neg (by omega), if_neg (by omega), slotOf_recv, if_pos rfl]
  · dsimp only [rd]; exact if_neg fun h => hr h.1
/-- and no cell has any past round 0. -/
theorem duties_later (g : GSem nD τ sig) : ∀ r, 1 ≤ r → (rd (F := F) m ρ).duties g r = ∅ :=
  fun r hr => by dsimp only [rd]; exact if_neg fun h => by have := h.1; omega

/-- The amounts. -/
theorem amount_bar (d : Dev nD) : (rd (F := F) m ρ).amount (barCell c) 0 d = 1 := rfl
/-- A transfer pays its send semaphore one row block's credit; -/
theorem amount_send (k : Fin 3) (d : Dev nD) : (rd (F := F) m ρ).amount (sendCell c k) 0 d = N := rfl
/-- and its receive semaphore the same. -/
theorem amount_recv (s d : Dev nD) : (rd (F := F) m ρ).amount (recvCell c s) 0 d = N := rfl

/-- What each cell's round comes to. -/
theorem expect_bar : (rd (F := F) m ρ).expect (barCell c) 0 = 3 := by
  unfold Schedule.expect Schedule.amountOf
  rw [duties_bar, Finset.sum_congr rfl fun d _ => amount_bar m ρ c d, Finset.sum_const, smul_eq_mul, Nat.mul_one]
  revert c; decide
/-- A send semaphore expects one row block's credit in its one round; -/
theorem expect_send (k : Fin 3) : (rd (F := F) m ρ).expect (sendCell c k) 0 = N := by
  unfold Schedule.expect Schedule.amountOf; rw [duties_send, Finset.sum_singleton, amount_send]
/-- and so does a peer's receive semaphore. -/
theorem expect_recv (s : Dev nD) (h : s ≠ c) : (rd (F := F) m ρ).expect (recvCell c s) 0 = N := by
  unfold Schedule.expect Schedule.amountOf; rw [duties_recv m ρ c s h, Finset.sum_singleton, amount_recv]

/-- What each payment hands over. -/
theorem payload_bar (d : Dev nD) : (rd (F := F) m ρ).payload (barCell c) 0 d = slotAny d c := rfl
/-- What a send semaphore hands back: the row block that was sent. -/
theorem payload_send (k : Fin 3) (d : Dev nD) : (rd (F := F) m ρ).payload (sendCell c k) 0 d = rowPts c (pr k c) (pbf m ρ c) := by
  show (if (sendS k).val < 6 then rowPts c (pr (distOf (sendS k)) c) (pbf m ρ c) else _ : sProp 𝕄) = _
  have h : (sendS k).val = 3 + k.val := rfl
  have := k.isLt
  rw [if_pos (by omega), distOf_send]
/-- What a receive semaphore hands over: the filled slot. -/
theorem payload_recv (s d : Dev nD) : (rd (F := F) m ρ).payload (recvCell c s) 0 d = slotPts c s (recvd m ρ c) := by
  show (if (recvS s).val < 6 then _ else slotPts c (slotOf (recvS s)) (recvd m ρ c) : sProp 𝕄) = _
  have h : (recvS s).val = 6 + s.val := rfl
  rw [if_neg (by omega), slotOf_recv]

/-- The whole round of a barrier: this device's slot of each peer's receive buffer. -/
theorem rest_bar : bigSep ((rd (F := F) m ρ).duties (barCell c) 0 \ ∅) (fun d => (rd (F := F) m ρ).payload (barCell c) 0 d)
    = iprop(slotAny (pr 0 c) c ∗ slotAny (pr 1 c) c ∗ slotAny (pr 2 c) c) := by
  rw [Finset.sdiff_empty, duties_bar, bigSep_eq_bigSepL_of_eq [pr 0 c, pr 1 c, pr 2 c] (peers_others c) (peers_nodup c)]
  rfl
/-- Of a send cell: the row block copied. -/
theorem rest_send (k : Fin 3) : bigSep ((rd (F := F) m ρ).duties (sendCell c k) 0 \ ∅) (fun d => (rd (F := F) m ρ).payload (sendCell c k) 0 d)
    = rowPts c (pr k c) (pbf m ρ c) := by
  rw [Finset.sdiff_empty, duties_send, bigSep_singleton, payload_send]
/-- Of a receive cell: the slot, filled. -/
theorem rest_recv (s : Dev nD) (h : s ≠ c) : bigSep ((rd (F := F) m ρ).duties (recvCell c s) 0 \ ∅) (fun d => (rd (F := F) m ρ).payload (recvCell c s) 0 d)
    = slotPts c s (recvd m ρ c) := by
  rw [Finset.sdiff_empty, duties_recv m ρ c s h, bigSep_singleton, payload_recv]

end Tables

/-! ## What a device owes at launch, and the levels -/

/-- The credit of its three copies, the nearest peer's last; -/
def O₁ (c : Dev nD) : CellTallies nD τ sig Unit :=
  tallyAt (recvCell (pr 2 c) c) () N + tallyAt (recvCell (pr 1 c) c) () N + tallyAt (recvCell (pr 0 c) c) () N
/-- with the unit for each peer's barrier, the nearest's last. -/
def O₀ (c : Dev nD) : CellTallies nD τ sig Unit :=
  O₁ c + tallyAt (barCell (pr 2 c)) () 1 + tallyAt (barCell (pr 1 c)) () 1 + tallyAt (barCell (pr 0 c)) () 1

def L (g : GSem nD τ sig) : Finset Unit := if g.1.2 = .tc then {()} else ∅
/-- The level of a semaphore: the barrier's below the receive semaphores', above everything else's. -/
def lvOf : SemLoc sig → ℕ
  | .reg _ => 1
  | .dma q => if q.val < 6 then 0 else 2
def lv (g : GSem nD τ sig) (_ : Unit) : ℕ := lvOf g.2

/-- Only the tensor core's cells carry a level; -/
theorem L_of_ne (g : GSem nD τ sig) (h : g.1.2 ≠ .tc) : L g = ∅ := if_neg h
/-- each of its cells carries one. -/
theorem L_tc (c : Dev nD) (sm : SemLoc sig) : L ((c : Thread nD τ), sm) = {()} := if_pos rfl
/-- A receive cell is at level two. -/
theorem lv_recv (c s : Dev nD) : lv (recvCell c s) () = 2 := by
  show (if (recvS s).val < 6 then 0 else 2) = 2
  have h : (recvS s).val = 6 + s.val := rfl
  rw [if_neg (by omega)]

/-- The copies' credit is owed to receive cells only; -/
theorem O₁_pos {c : Dev nD} {g : GSem nD τ sig} {u : Unit} (h : 0 < O₁ c g u) : ∃ k, g = recvCell (pr k c) c := by
  unfold O₁ at h
  simp only [Pi.add_apply, Finsupp.add_apply, tallyAt_apply] at h
  by_contra hn
  have h0 := fun k => not_exists.mp hn k
  rw [if_neg (fun h' => h0 2 h'.1), if_neg (fun h' => h0 1 h'.1), if_neg (fun h' => h0 0 h'.1)] at h
  exact Nat.lt_irrefl 0 h
/-- all of a launch's debt is owed to cells of level 1 or more. -/
theorem O₀_pos {c : Dev nD} {g : GSem nD τ sig} {u : Unit} (h : 0 < O₀ c g u) :
    ∃ k, g = recvCell (pr k c) c ∨ g = barCell (pr k c) := by
  by_contra hn
  have h0 := fun k => not_or.mp (not_exists.mp hn k)
  have h1 : O₁ c g u = 0 := Nat.eq_zero_of_not_pos fun h' => by
    obtain ⟨k, hk⟩ := O₁_pos h'
    exact (h0 k).1 hk
  unfold O₀ at h
  simp only [Pi.add_apply, Finsupp.add_apply, tallyAt_apply] at h
  rw [h1, if_neg (fun h' => (h0 2).2 h'.1), if_neg (fun h' => (h0 1).2 h'.1), if_neg (fun h' => (h0 0).2 h'.1)] at h
  exact Nat.lt_irrefl 0 h

/-- A wait on a staging semaphore is allowed under a launch's debt, and under none. -/
theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨k, rfl | rfl⟩ := O₀_pos hg <;> exact Finset.mem_singleton_self _)
      (fun p hp => by rw [Finset.mem_singleton.mp hp]; exact le_of_eq (if_pos hq))
      (fun g u hg => by
        obtain ⟨k, rfl | rfl⟩ := O₀_pos hg
        · rw [lv_recv]; decide
        · exact Nat.one_pos)
  · rw [MayWait_zero]; iintro -; iempintro

/-- The wait on the barrier is allowed while the copies are owed. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨k, rfl⟩ := O₁_pos hg; exact Finset.mem_singleton_self _)
    (fun p hp => by rw [Finset.mem_singleton.mp hp]; exact le_refl _)
    (fun g u hg => by obtain ⟨k, rfl⟩ := O₁_pos hg; rw [lv_recv]; decide)

end Cert.Scatter

end
-- ==== Proof.Steps.lean ====
/-
# One step of the exchange, for every peer

The rules the body's proof goes through, each stated once for the peer at any distance `k + 1`: the signal to it, the
copy to it, the wait for its block, and the wait for the departure of the copy to it. Offsets, target device and
semaphores enter as variables with their values as equations, since the kernel's text computes them.
-/
module

public import proofs.«01_k».proof.Proof.Protocol

@[expose] public section

set_option maxRecDepth 16384

noncomputable section

namespace Cert.Scatter

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What every device knows of every cell -/

/-- The invariant of every cell of the mesh, under the names `K`, and that each is in round 0. -/
def records (K : Dev nD × Fin 8 → ℕ) : sProp 𝕄 :=
  iprop((bigSep Finset.univ fun ck : Dev nD × Fin 8 => cellInv ER (rd m ρ) (K ck) (kcell ck))
    ∗ bigSep Finset.univ fun ck : Dev nD × Fin 8 => reached ER (kcell ck) 0)

instance records_persistent (K : Dev nD × Fin 8 → ℕ) : BI.Persistent (records m ρ K) := by unfold records; infer_instance

/-- Any cell's invariant and its mark are among them. -/
theorem records_cell (K : Dev nD × Fin 8 → ℕ) (ck : Dev nD × Fin 8) :
    records m ρ K ⊢ iprop(cellInv ER (rd m ρ) (K ck) (kcell ck) ∗ reached ER (kcell ck) 0) := by
  unfold records
  exact BI.sep_mono (bigSep_elim (Finset.mem_univ ck)) (bigSep_elim (Finset.mem_univ ck))
/-- So a barrier cell's, -/
theorem records_bar (K : Dev nD × Fin 8 → ℕ) (d : Dev nD) :
    records m ρ K ⊢ iprop(cellInv ER (rd m ρ) (K (d, 0)) (barCell d) ∗ reached ER (barCell d) 0) := records_cell m ρ K (d, 0)
/-- a send cell's -/
theorem records_send (K : Dev nD × Fin 8 → ℕ) (d : Dev nD) (k : Fin 3) :
    records m ρ K ⊢ iprop(cellInv ER (rd m ρ) (K (d, sendI k)) (sendCell d k) ∗ reached ER (sendCell d k) 0) := by
  have h := records_cell m ρ K (d, sendI k)
  have e : kcell (d, sendI k) = sendCell d k := Prod.ext rfl (csem_send k)
  rwa [e] at h
/-- and a receive cell's. -/
theorem records_recv (K : Dev nD × Fin 8 → ℕ) (d s : Dev nD) :
    records m ρ K ⊢ iprop(cellInv ER (rd m ρ) (K (d, recvI s)) (recvCell d s) ∗ reached ER (recvCell d s) 0) := by
  have h := records_cell m ρ K (d, recvI s)
  have e : kcell (d, recvI s) = recvCell d s := Prod.ext rfl (csem_recv s)
  rwa [e] at h

section Steps

variable (K : Dev nD × Fin 8 → ℕ) (c : Dev nD)

/-- The signal to a peer's barrier pays this device's unit and hands over the peer's slot of this device's receive buffer. -/
theorem wp_signal_peer {α : Type} {Q : α → sProp 𝕄} {kk : PUnit → Prog (TpuEff nD τ sig (Elt F) Λ₀ .tc) α}
    (k : Fin 3) (n : Dev nD) (hn : n = pr k c) (O : CellTallies nD τ sig Unit) (W : Waits sig Unit) :
    iprop(records m ρ K ∗ owes (c : Thread nD τ) (O + tallyAt (barCell (pr k c)) () 1) W
        ∗ dutyTok ER (barCell (pr k c)) 0 c ∗ slotAny c (pr k c))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ
              (.op (.semSignal (n : Thread nD τ) barS 1) kk) Q) := by
  subst hn
  iintro ⟨#Hr, HO, Ht, Hs⟩
  ihave Hc := (records_bar m ρ K (pr k c)) $$ Hr
  icases Hc with ⟨#HI, #HR⟩
  iapply (Rounds.wp_signal 𝒱₀ ER (rd m ρ) (c : Thread nD τ) none (dst := (pr k c : Thread nD τ)) (κ := K (pr k c, 0))
      (d := c) (by rw [duties_bar]; exact Finset.mem_erase.mpr ⟨(pr_ne k c).symm, Finset.mem_univ _⟩)
      (amount_bar m ρ (pr k c) c) () O rfl) $$ [HO Ht Hs]
  isplitr; · iexact HI
  isplitl [HO]; · iexact HO
  isplitl [Ht]; · iexact Ht
  isplitl [Hs]; · rw [payload_bar]; iexact Hs
  iexact HR

/-- The wait for three units on this device's barrier brings this device's slot of each peer's receive buffer, and
    leaves the barrier's counter at zero. -/
theorem wp_wait_bar {α : Type} {Q : α → sProp 𝕄} {kk : PUnit → Prog (TpuEff nD τ sig (Elt F) Λ₀ .tc) α}
    (W : Waits sig Unit) :
    iprop(records m ρ K ∗ levAts L lv ∗ cred (tallyAt (barCell c) () 3) ∗ owes (c : Thread nD τ) (O₁ c) W ∗ atPos ER (barCell c) 0 ∅ 0)
      ⊢ iprop(((owes (c : Thread nD τ) (O₁ c) (insert (SemLoc.reg barS, ()) W) ∗ semVal (barCell c) 0
            ∗ slotAny (pr 0 c) c ∗ slotAny (pr 1 c) c ∗ slotAny (pr 2 c) c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS 3) kk) Q) := by
  iintro ⟨#Hr, #Hlev, Hc, HO, Hat⟩ Hk
  ihave Hci := (records_bar m ρ K c) $$ Hr
  icases Hci with ⟨#HI, -⟩
  iapply (Rounds.wp_wait_rest_token 𝒱₀ ER (rd m ρ) (c : Thread nD τ) none (κ := K (c, 0))
      (wpE_semWait_eq 𝒱₀ (c : Thread nD τ) none Set.univ) (Set.mem_univ _) () (O := O₁ c) (W := W) (R := 0) (m := 0) (T := ∅)
      (by rw [Nat.zero_add, expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (rd m ρ) (Set.mem_univ (K (c, 0))) (fun h => h) (R := 0 + 1) (duties_later m ρ (barCell c))) $$ [Hat] with Hz
  · isplitr; · iexact HI
    iexact Hat
  iapply Hk
  isplitl [HO]; · iexact HO
  isplitl [Hz]; · iexact Hz
  iexact Hp

/-- The copy to a peer: this device's row block for it goes into this device's slot of its receive buffer. -/
theorem wp_send_peer {α : Type} {Q : α → sProp 𝕄} {kk : PUnit → Prog (TpuEff nD τ sig (Elt F) Λ₀ .tc) α}
    (k : Fin 3) (n : Dev nD) (hn : n = pr k c)
    (o₁ : Fin 2 → ℕ) (h₁ : o₁ = ![128 * (pr k c).val, 0]) (i₁ : ∀ a, o₁ a + S128x512.size a ≤ S512x512.size a)
    (o₂ : Fin 3 → ℕ) (h₂ : o₂ = ![c.val, 0, 0]) (i₂ : ∀ a, o₂ a + S1x128x512.size a ≤ S4x128x512.size a)
    (sS sR : DmaSem sig) (hS : sS = sendS k) (hR : sR = recvS c)
    {hsc : ((rM.slice (Rect.unit (s := S4x128x512) o₂ S1x128x512.size i₂) (fun _ => rfl)).squeeze S128x512 squeezes_S1x128x512_S128x512 : Memref sig (Dev.tc n : Thread nD τ).2.kind .vmem S128x512 .bf16).view.ref.isScScratch = false}
    {hsrc : (qM.slice (Rect.unit (s := S512x512) o₁ S128x512.size i₁) (fun _ => rfl) : Memref sig .tc .vmem S128x512 .bf16).view.WordExact}
    {hdst : ((rM.slice (Rect.unit (s := S4x128x512) o₂ S1x128x512.size i₂) (fun _ => rfl)).squeeze S128x512 squeezes_S1x128x512_S128x512 : Memref sig .tc .vmem S128x512 .bf16).view.WordExact}
    {hsem : DmaTarget.Typed .vmem (.dma sR) (.remote (Dev.tc n : Thread nD τ)
      ((rM.slice (Rect.unit (s := S4x128x512) o₂ S1x128x512.size i₂) (fun _ => rfl)).squeeze S128x512 squeezes_S1x128x512_S128x512 : Memref sig .tc .vmem S128x512 .bf16) (.dma sS) hsc)}
    (O : CellTallies nD τ sig Unit) (W : Waits sig Unit) :
    iprop(records m ρ K ∗ rowPts c (pr k c) (pbf m ρ c) ∗ slotAny (pr k c) c
        ∗ owes (c : Thread nD τ) (O + tallyAt (recvCell (pr k c) c) () N) W
        ∗ dutyTok ER (sendCell c k) 0 c ∗ dutyTok ER (recvCell (pr k c) c) 0 c)
      ⊢ iprop(((cred (tallyAt (sendCell c k) () N) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (qM.slice (Rect.unit (s := S512x512) o₁ S128x512.size i₁) (fun _ => rfl))
                (.remote (Dev.tc n : Thread nD τ)
                  ((rM.slice (Rect.unit (s := S4x128x512) o₂ S1x128x512.size i₂) (fun _ => rfl)).squeeze S128x512 squeezes_S1x128x512_S128x512) (.dma sS) hsc)
                (.dma sR) hsrc hdst hsem) kk) Q) := by
  subst hn h₁ h₂ hS hR
  iintro ⟨#Hr, Hrow, Hslot, HO, Ht₁, Ht₂⟩
  ihave Hc₁ := (records_send m ρ K c k) $$ Hr
  icases Hc₁ with ⟨#HI₁, #HR₁⟩
  ihave Hc₂ := (records_recv m ρ K (pr k c) c) $$ Hr
  icases Hc₂ with ⟨#HI₂, #HR₂⟩
  unfold slotAny
  icases Hslot with ⟨%fd, Hslot⟩
  iapply (Rounds.wp_send_pointsTo 𝒱₀ ER (rd m ρ) (c : Thread nD τ) none (c' := (pr k c : Thread nD τ)) (src := rowM (pr k c)) (dst := slotM c)
    (κ₁ := K (c, sendI k)) (κ₂ := K (pr k c, recvI c))
    (r₁ := 0) (r₂ := 0) (d₁ := c) (d₂ := c) (fs := pbf m ρ c) (fd := fd) (q := fullShare)
    (by rw [duties_send]; exact Finset.mem_singleton_self _)
    (by rw [duties_recv m ρ (pr k c) c (pr_ne k c).symm]; exact Finset.mem_singleton_self _)
    () () N rfl (amount_send m ρ c k c) (amount_recv m ρ (pr k c) c c) O rfl (W := W)
    (by rw [payload_send]; exact BI.Entails.refl _)
    (by
      rw [payload_recv]
      exact Entails.of_eq (pointsTo_congr (gathered_write (pbf m ρ) (pr k c) c fd)))) $$ [Hrow Hslot HO Ht₁ Ht₂]
  isplitr; · iexact HI₁
  isplitr; · iexact HI₂
  isplitl [Hrow]; · unfold rowPts; iexact Hrow
  isplitl [Hslot]; · unfold slotPts; iexact Hslot
  isplitl [HO]; · iexact HO
  isplitl [Ht₁]; · iexact Ht₁
  isplitr; · iexact HR₁
  isplitl [Ht₂]; · iexact Ht₂
  iexact HR₂

/-- The wait for a peer's block: its slot comes back filled, and the receive semaphore's counter is at zero. -/
theorem wp_wait_recv {α : Type} {Q : α → sProp 𝕄} {kk : PUnit → Prog (TpuEff nD τ sig (Elt F) Λ₀ .tc) α}
    (k : Fin 3) (sR : DmaSem sig) (hR : sR = recvS (pr k c))
    {sp' : Space} {s' : Shape} {e' : EltTy} {src : Memref sig .tc sp' s' e'} {dst : Memref sig .tc .vmem S128x512 .bf16}
    {hsrc : src.view.WordExact} {hdst : dst.view.WordExact} (W : Waits sig Unit) :
    iprop(records m ρ K ∗ cred (tallyAt (recvCell c (pr k c)) () N) ∗ owes (c : Thread nD τ) 0 W ∗ atPos ER (recvCell c (pr k c)) 0 ∅ 0)
      ⊢ iprop(((owes (c : Thread nD τ) 0 (insert (SemLoc.dma (recvS (pr k c)), ()) W) ∗ semVal (recvCell c (pr k c)) 0
            ∗ slotPts c (pr k c) (recvd m ρ c))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sR src dst hsrc hdst) kk) Q) := by
  subst hR
  iintro ⟨#Hr, Hc, HO, Hat⟩ Hk
  ihave Hci := (records_recv m ρ K c (pr k c)) $$ Hr
  icases Hci with ⟨#HI, -⟩
  iapply (Rounds.wp_wait_rest_token 𝒱₀ ER (rd m ρ) (c : Thread nD τ) none (κ := K (c, recvI (pr k c)))
      (wpE_waitDma2_eq 𝒱₀ (c : Thread nD τ) none Set.univ) (Set.mem_univ _) () (O := 0) (W := W) (R := 0) (m := 0) (T := ∅)
      (by rw [Nat.zero_add, expect_recv m ρ c _ (pr_ne k c)])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m ρ c (pr k c) (pr_ne k c))) $$ Hpay
  imod (Rounds.cell_close ER (rd m ρ) (Set.mem_univ (K (c, recvI (pr k c)))) (fun h => h) (R := 0 + 1) (duties_later m ρ (recvCell c (pr k c)))) $$ [Hat] with Hz
  · isplitr; · iexact HI
    iexact Hat
  iapply Hk
  isplitl [HO]; · iexact HO
  isplitl [Hz]; · iexact Hz
  iexact Hp

/-- The wait for the departure of the copy to a peer: the row block copied comes back, and the send semaphore's counter is
    at zero. -/
theorem wp_wait_send {α : Type} {Q : α → sProp 𝕄} {kk : PUnit → Prog (TpuEff nD τ sig (Elt F) Λ₀ .tc) α}
    (k : Fin 3) (sS : DmaSem sig) (hS : sS = sendS k)
    {sp' : Space} {s' : Shape} {e' : EltTy} {src : Memref sig .tc sp' s' e'} {dst : Memref sig .tc .vmem S128x512 .bf16}
    {hsrc : src.view.WordExact} {hdst : dst.view.WordExact} (W : Waits sig Unit) :
    iprop(records m ρ K ∗ cred (tallyAt (sendCell c k) () N) ∗ owes (c : Thread nD τ) 0 W ∗ atPos ER (sendCell c k) 0 ∅ 0)
      ⊢ iprop(((owes (c : Thread nD τ) 0 (insert (SemLoc.dma (sendS k), ()) W) ∗ semVal (sendCell c k) 0
            ∗ rowPts c (pr k c) (pbf m ρ c))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sS src dst hsrc hdst) kk) Q) := by
  subst hS
  iintro ⟨#Hr, Hc, HO, Hat⟩ Hk
  ihave Hci := (records_send m ρ K c k) $$ Hr
  icases Hci with ⟨#HI, -⟩
  iapply (Rounds.wp_wait_rest_token 𝒱₀ ER (rd m ρ) (c : Thread nD τ) none (κ := K (c, sendI k))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m ρ c k)) $$ Hpay
  imod (Rounds.cell_close ER (rd m ρ) (Set.mem_univ (K (c, sendI k))) (fun h => h) (R := 0 + 1) (duties_later m ρ (sendCell c k))) $$ [Hat] with Hz
  · isplitr; · iexact HI
    iexact Hat
  iapply Hk
  isplitl [HO]; · iexact HO
  isplitl [Hz]; · iexact Hz
  iexact Hp

/-- Device `c`'s own receive semaphore is never paid: its counter is at zero. -/
theorem close_self : iprop(records m ρ K ∗ atPos ER (recvCell c c) 0 ∅ 0) ⊢ (iprop(|={Set.univ}=> semVal (recvCell c c) 0) : sProp 𝕄) := by
  iintro ⟨#Hr, Hat⟩
  ihave Hci := (records_recv m ρ K c c) $$ Hr
  icases Hci with ⟨#HI, -⟩
  iapply (Rounds.cell_close ER (rd m ρ) (Set.mem_univ (K (c, recvI c))) (fun h => h) (R := 0) (fun r _ => duties_self m ρ c r))
  isplitr; · iexact HI
  iexact Hat

/-- A load of a slot of the receive buffer, holding that slot. -/
theorem wp_load_slot {α : Type} {Q : α → sProp 𝕄} (s : Dev nD) (o : Fin 3 → ℕ) (h : o = ![s.val, 0, 0]) (i : ∀ a, o a + S1x128x512.size a ≤ S4x128x512.size a)
    (f : (cc0_scratch2 : Ref sig .tc).ty.Contents (Elt F))
    {hl : (rM : Memref sig .tc .vmem S4x128x512 .bf16).view.LoadsAt (Rect.unit (s := S4x128x512) o S1x128x512.size i).toLoadRect}
    {kl : (S1x128x512.Idx → Elt F .bf16) → Prog (TpuEff nD τ sig (Elt F) Λ₀ .tc) α} :
    slotPts c s f
      ⊢ iprop((slotPts c s f -∗ wp frame (wpE (defs₀ (F := F)) 𝒱₀ (c : Thread nD τ) none) Set.univ
            (kl ((rM : Memref sig .tc .vmem S4x128x512 .bf16).view.readAt (Elt F) (slotR s).toLoadRect f)) Q)
          -∗ wp frame (wpE (defs₀ (F := F)) 𝒱₀ (c : Thread nD τ) none) Set.univ
              (.op (.load rM (Rect.unit (s := S4x128x512) o S1x128x512.size i).toLoadRect hl) kl) Q) := by
  subst h
  unfold slotPts
  refine wp_load 𝒱₀ (c : Thread nD τ) none Set.univ (m := rM) ?_
  have e : (slotM s).view.set = ((View.whole cc0_scratch2).slice (slotR s)).set := View.set_reshape _ _
  rw [e, View.set_slice]
  exact Finset.Subset.refl _

end Steps

end Cert.Scatter

end
-- ==== Proof.Body.lean ====
/-
# The body

What a device starts from and leaves, and the run of the body between the two: the signals, the partial product, the
wait on the barrier, the three copies, this device's own rows of the partial product, the three blocks received and
added, the three departures.
-/
module

public import proofs.«01_k».proof.Proof.Steps

@[expose] public section

set_option maxRecDepth 16384

noncomputable section

namespace Cert.Scatter

open Cert.KernelIdeal Cert.KernelIdeal.Gen
open Idealize.ShloMosaic Idealize.ShloMosaic.TcCoe
open Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The result -/

/-- The block device `c` receives from device `s`, as loaded; -/
def slotVec (c s : Dev nD) : Vec F S1x128x512 .bf16 :=
  (rM : Memref sig .tc .vmem S4x128x512 .bf16).view.readAt (Elt F) (slotR s).toLoadRect (recvd m ρ c)
/-- device `c`'s own rows of its partial product, not rounded; -/
def ownRows (c : Dev nD) : Vec F S128x512 .f32 :=
  (pM : Memref sig .tc .vmem S512x512 .f32).view.readAt (Elt F) (rowR c).toLoadRect (part m ρ c)
/-- and its result: its own rows, then the received blocks added, the farthest peer's first. -/
def outAt (c : Dev nD) : (cc0_stg2_0 : Ref sig .tc).ty.Contents (Elt F) :=
  k0_pay1 (k0_pay6 (k0_pay5 (k0_pay4 (ownRows m ρ c) (slotVec m ρ c (pr 2 c))) (slotVec m ρ c (pr 1 c)))) (slotVec m ρ c (pr 0 c))

/-! ## What a device starts from, and what it leaves -/

/-- Device `c`'s place in each of its own eight cells: at the start of round 0. -/
def places (c : Dev nD) : sProp 𝕄 :=
  iprop(atPos ER (barCell c) 0 ∅ 0
    ∗ atPos ER (sendCell c 0) 0 ∅ 0 ∗ atPos ER (sendCell c 1) 0 ∅ 0 ∗ atPos ER (sendCell c 2) 0 ∅ 0
    ∗ atPos ER (recvCell c c) 0 ∅ 0
    ∗ atPos ER (recvCell c (pr 0 c)) 0 ∅ 0 ∗ atPos ER (recvCell c (pr 1 c)) 0 ∅ 0 ∗ atPos ER (recvCell c (pr 2 c)) 0 ∅ 0)

/-- The nine payments device `c` is to make. -/
def dues (c : Dev nD) : sProp 𝕄 :=
  iprop(dutyTok ER (barCell (pr 0 c)) 0 c ∗ dutyTok ER (barCell (pr 1 c)) 0 c ∗ dutyTok ER (barCell (pr 2 c)) 0 c
    ∗ dutyTok ER (recvCell (pr 0 c) c) 0 c ∗ dutyTok ER (recvCell (pr 1 c) c) 0 c ∗ dutyTok ER (recvCell (pr 2 c) c) 0 c
    ∗ dutyTok ER (sendCell c 0) 0 c ∗ dutyTok ER (sendCell c 1) 0 c ∗ dutyTok ER (sendCell c 2) 0 c)

/-- The exchange's ghost state: what is known of every cell, the device's places, and its payments. -/
def ghost (K : Dev nD × Fin 8 → ℕ) (c : Dev nD) : sProp 𝕄 := iprop(records m ρ K ∗ places (F := F) c ∗ dues (F := F) c)

/-- The credit a device waits with: its barrier's three units and the three blocks. -/
def credits (c : Dev nD) : sProp 𝕄 :=
  iprop(cred (tallyAt (barCell c) () 3) ∗ cred (tallyAt (recvCell c (pr 0 c)) () N)
    ∗ cred (tallyAt (recvCell c (pr 1 c)) () N) ∗ cred (tallyAt (recvCell c (pr 2 c)) () N))

/-- What device `c`'s body starts from, besides its scratch buffers; -/
def start (c : Dev nD) : sProp 𝕄 := iprop((∃ K, ghost m ρ K c) ∗ credits c ∗ levAts L lv)

/-- the scratch buffers, at any contents; -/
def scratches (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))

/-- the counters, back at zero. -/
def zeros (c : Dev nD) : sProp 𝕄 :=
  iprop(semVal (barCell c) 0
    ∗ semVal (sendCell c 0) 0 ∗ semVal (sendCell c 1) 0 ∗ semVal (sendCell c 2) 0
    ∗ semVal (recvCell c c) 0 ∗ semVal (recvCell c (pr 0 c)) 0 ∗ semVal (recvCell c (pr 1 c)) 0 ∗ semVal (recvCell c (pr 2 c)) 0)

def Φ₀ (c : Dev nD) : sProp 𝕄 := iprop(start m ρ c ∗ scratches (F := F) c)
def Φ₁ (c : Dev nD) : sProp 𝕄 := iprop(scratches (F := F) c ∗ zeros (F := F) c)

/-- The pipeline's proof data: one point, the inputs staged before it and the result staged after it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aStg m ρ c
    | ⟨1, _⟩ => bStg m ρ c
    | ⟨2, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

/-- The grid's one point. -/
def t₀ : Fin cfg0.N := t0_0
/-- The grid has one point. -/
theorem fin_N (t : Fin cfg0.N) : t = t₀ := fin_N0 t

/-- The first operand is fetched at it, -/
theorem fetch_0 (t : Fin cfg0.N) : (cfg0.win (0 : Fin 3)).fetch t = true := by rw [fin_N t]; rfl
/-- and so is the second. -/
theorem fetch_1 (t : Fin cfg0.N) : (cfg0.win (1 : Fin 3)).fetch t = true := by rw [fin_N t]; rfl

/-- Owning a buffer whole at given contents is holding it at some contents equal to them. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body

variable (K : Dev nD × Fin 8 → ℕ)

/-- The rectangles of the whole result and of a whole partial product. -/
abbrev oR : Rect S128x512 := Rect.unit (s := S128x512) ![0, 0] S128x512.size inb_S128x512_S128x512_0_0
abbrev pR : Rect S512x512 := Rect.unit (s := S512x512) ![0, 0] S512x512.size inb_S512x512_S512x512_0_0

/-- The offsets of a whole-array access are all zero. -/
theorem hz : (![0, 0] : Fin 2 → Nat) = fun _ => 0 := funext fun a => by fin_cases a <;> rfl

/-- Loads of a whole buffer read its contents, -/
theorem read_a (f : (cc0_stg0_0 : Ref sig .tc).ty.Contents (Elt F)) :
    (aM : Memref sig .tc .vmem S512x256 .f32).view.readAt (Elt F) (Rect.unit (s := S512x256) ![0, 0] S512x256.size inb_S512x256_S512x256_0_0).toLoadRect f = f :=
  Memref.readAt_unit_zero (Elt F) cc0_stg0_0 hz _ f
/-- A whole read of the second operand's staging buffer gives its contents; -/
theorem read_b (f : (cc0_stg1_0 : Ref sig .tc).ty.Contents (Elt F)) :
    (bM : Memref sig .tc .vmem S256x512 .f32).view.readAt (Elt F) (Rect.unit (s := S256x512) ![0, 0] S256x512.size inb_S256x512_S256x512_0_0).toLoadRect f = f :=
  Memref.readAt_unit_zero (Elt F) cc0_stg1_0 hz _ f
/-- of the result's staging buffer, its contents; -/
theorem read_o (f : (cc0_stg2_0 : Ref sig .tc).ty.Contents (Elt F)) :
    (oM : Memref sig .tc .vmem S128x512 .f32).view.readAt (Elt F) oR.toLoadRect f = f :=
  Memref.readAt_unit_zero (Elt F) cc0_stg2_0 hz _ f
/-- and of the partial product's buffer, its contents. -/
theorem read_p (f : (cc0_scratch0 : Ref sig .tc).ty.Contents (Elt F)) :
    (pM : Memref sig .tc .vmem S512x512 .f32).view.readAt (Elt F) pR.toLoadRect f = f :=
  Memref.readAt_unit_zero (Elt F) cc0_scratch0 hz _ f
/-- and stores to one leave what was stored. -/
theorem write_o (f w : (cc0_stg2_0 : Ref sig .tc).ty.Contents (Elt F)) :
    ((oM : Memref sig .tc .vmem S128x512 .f32).access oR : View sig .tc _ _ _).write (Elt F) f w Finset.univ = w :=
  Memref.write_access_unit_zero_univ (Elt F) cc0_stg2_0 hz _ f w
/-- A whole store into the partial product's buffer leaves what was stored; -/
theorem write_p (f w : (cc0_scratch0 : Ref sig .tc).ty.Contents (Elt F)) :
    ((pM : Memref sig .tc .vmem S512x512 .f32).access pR : View sig .tc _ _ _).write (Elt F) f w Finset.univ = w :=
  Memref.write_access_unit_zero_univ (Elt F) cc0_scratch0 hz _ f w
/-- and into the rounded product's buffer, likewise. -/
theorem write_q (f w : (cc0_scratch1 : Ref sig .tc).ty.Contents (Elt F)) :
    ((qM : Memref sig .tc .vmem S512x512 .bf16).access pR : View sig .tc _ _ _).write (Elt F) f w Finset.univ = w :=
  Memref.write_access_unit_zero_univ (Elt F) cc0_scratch1 hz _ f w

/-- The load of this device's own rows reads them. -/
theorem read_own (c : Dev nD) (o : Fin 2 → ℕ) (h : o = ![128 * c.val, 0]) (i : ∀ a, o a + S128x512.size a ≤ S512x512.size a) :
    (pM : Memref sig .tc .vmem S512x512 .f32).view.readAt (Elt F) (Rect.unit (s := S512x512) o S128x512.size i).toLoadRect (part m ρ c) = ownRows m ρ c := by
  subst h; rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's start, -/
def bodyPre (c : Dev nD) : sProp 𝕄 :=
  iprop((ghost m ρ K c ∗ credits c ∗ levAts L lv ∗ scratches c)
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

/-- and its end. -/
def bodyPost (c : Dev nD) : sProp 𝕄 :=
  iprop(Φ₁ (F := F) c ∗ (dats m ρ 0 c).owesAt () t₀.succ ∗ stg c cc0_stg0_0 (aStg m ρ c) ∗ stg c cc0_stg1_0 (bStg m ρ c)
    ∗ stg c cc0_stg2_0 (outAt m ρ c))

set_option maxHeartbeats 1600000 in
/-- The body runs from its start to its end, one rule per operation. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body aM (Memref.isWhole_whole _) bM (Memref.isWhole_whole _) oM (Memref.isWhole_whole _)
            pM (Memref.isWhole_whole _) qM (Memref.isWhole_whole _) rM (Memref.isWhole_whole _) cc0_scratch3 cc0_scratch4) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, Prog.bind_assoc, wp_deviceId]
  unfold bodyPre ghost places dues credits scratches
  iintro ⟨⟨⟨⟨#Hrec, ⟨HatB, HatS0, HatS1, HatS2, HatV, HatV0, HatV1, HatV2⟩, HtB0, HtB1, HtB2, HtV0, HtV1, HtV2, HtS0, HtS1, HtS2⟩,
      ⟨HcB, HcV0, HcV1, HcV2⟩, #Hlev, ⟨%fp, Hp⟩, ⟨%fq, Hq⟩, ⟨%fr, Hr⟩⟩,
    Ho, ⟨%d0, %g0, %hg0, Ha⟩, ⟨%d1, %g1, %hg1, Hb⟩, ⟨%d2, %g2, %hg2, Hout⟩⟩, Hk⟩
  have ha : g0 = aStg m ρ c := by rw [hg0]; unfold Dat.before; rw [if_pos (fetch_0 t₀)]; rfl
  have hb : g1 = bStg m ρ c := by rw [hg1]; unfold Dat.before; rw [if_pos (fetch_1 t₀)]; rfl
  subst ha hb
  unfold Dat.owesAt Pipeline.owesWithin
  icases Ho with ⟨%W, %hW, HO⟩
  rw [show (dats m ρ 0 c).owed t₀.castSucc = O₀ c from rfl]
  -- the receive buffer cut into slots: its own stays, the peers' go with the signals
  ihave Hr' := (Entails.of_eq (recv_split (F := F) c fr)) $$ Hr
  icases Hr' with ⟨Hr, Hr0, Hr1, Hr2⟩
  unfold O₀
  iapply (wp_signal_peer m ρ K c 0 _ (dev1_eq c) (O₁ c + tallyAt (barCell (pr 2 c)) () 1 + tallyAt (barCell (pr 1 c)) () 1) W) $$ [HO HtB0 Hr0]
  · isplitr; · iexact Hrec
    isplitl [HO]; · iexact HO
    isplitl [HtB0]; · iexact HtB0
    unfold slotAny; iexists fr; iexact Hr0
  iintro HO
  iapply (wp_signal_peer m ρ K c 1 _ (dev2_eq c) (O₁ c + tallyAt (barCell (pr 2 c)) () 1) W) $$ [HO HtB1 Hr1]
  · isplitr; · iexact Hrec
    isplitl [HO]; · iexact HO
    isplitl [HtB1]; · iexact HtB1
    unfold slotAny; iexists fr; iexact Hr1
  iintro HO
  iapply (wp_signal_peer m ρ K c 2 _ (dev3_eq c) (O₁ c) W) $$ [HO HtB2 Hr2]
  · isplitr; · iexact Hrec
    isplitl [HO]; · iexact HO
    isplitl [HtB2]; · iexact HtB2
    unfold slotAny; iexists fr; iexact Hr2
  iintro HO
  -- the partial product, and its rounding
  iapply (wp_load 𝒱₀ (c : Thread nD τ) none Set.univ (m := aM) (Finset.subset_univ _)) $$ Ha; iintro Ha
  iapply (wp_load 𝒱₀ (c : Thread nD τ) none Set.univ (m := bM) (Finset.subset_univ _)) $$ Hb; iintro Hb
  iapply (wp_load 𝒱₀ (c : Thread nD τ) none Set.univ (m := pM) (Finset.subset_univ _)) $$ Hp; iintro Hp
  iapply (wp_store 𝒱₀ (c : Thread nD τ) none Set.univ (m := pM) (r := pR) (Mk := Finset.univ) (Finset.subset_univ _)) $$ Hp; iintro Hp
  rw [write_p, read_a, read_b, show k0_pay2 (aStg m ρ c) (bStg m ρ c) = part m ρ c from rfl]
  iapply (wp_load 𝒱₀ (c : Thread nD τ) none Set.univ (m := pM) (Finset.subset_univ _)) $$ Hp; iintro Hp
  rw [read_p]
  iapply (wp_load 𝒱₀ (c : Thread nD τ) none Set.univ (m := qM) (Finset.subset_univ _)) $$ Hq; iintro Hq
  iapply (wp_store 𝒱₀ (c : Thread nD τ) none Set.univ (m := qM) (r := pR) (Mk := Finset.univ) (Finset.subset_univ _)) $$ Hq; iintro Hq
  rw [write_q, show k0_pay3 (part m ρ c) = pbf m ρ c from rfl]
  -- the wait on the barrier
  iapply (wp_wait_bar m ρ K c W) $$ [HcB HO HatB]
  · isplitr; · iexact Hrec
    isplitr; · iexact Hlev
    isplitl [HcB]; · iexact HcB
    isplitl [HO]; · iexact HO
    iexact HatB
  iintro ⟨HO, HzB, Hn0, Hn1, Hn2⟩
  -- the three copies, each of its own row block
  ihave Hq' := (Entails.of_eq (row_split c (pbf m ρ c))) $$ Hq
  icases Hq' with ⟨Hq, Hq0, Hq1, Hq2⟩
  unfold O₁
  iapply (wp_send_peer m ρ K c 0 _ (dev4_eq c) _ (off3_eq c 0) _ _ (k0_off2_eq c) _ _ _ sendS_0 (recvS_send c)
      (tallyAt (recvCell (pr 2 c) c) () N + tallyAt (recvCell (pr 1 c) c) () N) _) $$ [Hq0 Hn0 HO HtS0 HtV0]
  · isplitr; · iexact Hrec
    isplitl [Hq0]; · iexact Hq0
    isplitl [Hn0]; · iexact Hn0
    isplitl [HO]; · iexact HO
    isplitl [HtS0]; · iexact HtS0
    iexact HtV0
  iintro ⟨HcS0, HO⟩
  iapply (wp_send_peer m ρ K c 1 _ (dev5_eq c) _ (off3_eq c 1) _ _ (k0_off2_eq c) _ _ _ sendS_1 (recvS_send c)
      (tallyAt (recvCell (pr 2 c) c) () N) _) $$ [Hq1 Hn1 HO HtS1 HtV1]
  · isplitr; · iexact Hrec
    isplitl [Hq1]; · iexact Hq1
    isplitl [Hn1]; · iexact Hn1
    isplitl [HO]; · iexact HO
    isplitl [HtS1]; · iexact HtS1
    iexact HtV1
  iintro ⟨HcS1, HO⟩
  rw [← zero_add (tallyAt (recvCell (pr 2 c) c) () N)]
  iapply (wp_send_peer m ρ K c 2 _ (dev6_eq c) _ (off3_eq c 2) _ _ (k0_off2_eq c) _ _ _ sendS_2 (recvS_send c) 0 _) $$ [Hq2 Hn2 HO HtS2 HtV2]
  · isplitr; · iexact Hrec
    isplitl [Hq2]; · iexact Hq2
    isplitl [Hn2]; · iexact Hn2
    isplitl [HO]; · iexact HO
    isplitl [HtS2]; · iexact HtS2
    iexact HtV2
  iintro ⟨HcS2, HO⟩
  -- its own rows
  iapply (wp_load 𝒱₀ (c : Thread nD τ) none Set.univ (m := pM) (Finset.subset_univ _)) $$ Hp; iintro Hp
  rw [read_own m ρ c _ (k0_off4_eq c)]
  iapply (wp_load 𝒱₀ (c : Thread nD τ) none Set.univ (m := oM) (Finset.subset_univ _)) $$ Hout; iintro Hout
  iapply (wp_store 𝒱₀ (c : Thread nD τ) none Set.univ (m := oM) (r := oR) (Mk := Finset.univ) (Finset.subset_univ _)) $$ Hout; iintro Hout
  rw [write_o]
  -- the farthest peer's block, added
  iapply (wp_wait_recv m ρ K c 2 _ (recvS_wait c 2) _) $$ [HcV2 HO HatV2]
  · isplitr; · iexact Hrec
    isplitl [HcV2]; · iexact HcV2
    isplitl [HO]; · iexact HO
    iexact HatV2
  iintro ⟨HO, HzV2, Hr2⟩
  iapply (wp_load 𝒱₀ (c : Thread nD τ) none Set.univ (m := oM) (Finset.subset_univ _)) $$ Hout; iintro Hout
  rw [read_o]
  iapply (wp_load_slot c (pr 2 c) _ (off7_eq c 2) _ (recvd m ρ c)) $$ Hr2; iintro Hr2
  iapply (wp_load 𝒱₀ (c : Thread nD τ) none Set.univ (m := oM) (Finset.subset_univ _)) $$ Hout; iintro Hout
  iapply (wp_store 𝒱₀ (c : Thread nD τ) none Set.univ (m := oM) (r := oR) (Mk := Finset.univ) (Finset.subset_univ _)) $$ Hout; iintro Hout
  rw [write_o]
  -- the middle one's
  iapply (wp_wait_recv m ρ K c 1 _ (recvS_wait c 1) _) $$ [HcV1 HO HatV1]
  · isplitr; · iexact Hrec
    isplitl [HcV1]; · iexact HcV1
    isplitl [HO]; · iexact HO
    iexact HatV1
  iintro ⟨HO, HzV1, Hr1⟩
  iapply (wp_load 𝒱₀ (c : Thread nD τ) none Set.univ (m := oM) (Finset.subset_univ _)) $$ Hout; iintro Hout
  rw [read_o]
  iapply (wp_load_slot c (pr 1 c) _ (off7_eq c 1) _ (recvd m ρ c)) $$ Hr1; iintro Hr1
  iapply (wp_load 𝒱₀ (c : Thread nD τ) none Set.univ (m := oM) (Finset.subset_univ _)) $$ Hout; iintro Hout
  iapply (wp_store 𝒱₀ (c : Thread nD τ) none Set.univ (m := oM) (r := oR) (Mk := Finset.univ) (Finset.subset_univ _)) $$ Hout; iintro Hout
  rw [write_o]
  -- the nearest one's
  iapply (wp_wait_recv m ρ K c 0 _ (recvS_wait c 0) _) $$ [HcV0 HO HatV0]
  · isplitr; · iexact Hrec
    isplitl [HcV0]; · iexact HcV0
    isplitl [HO]; · iexact HO
    iexact HatV0
  iintro ⟨HO, HzV0, Hr0⟩
  iapply (wp_load 𝒱₀ (c : Thread nD τ) none Set.univ (m := oM) (Finset.subset_univ _)) $$ Hout; iintro Hout
  rw [read_o]
  iapply (wp_load_slot c (pr 0 c) _ (off7_eq c 0) _ (recvd m ρ c)) $$ Hr0; iintro Hr0
  iapply (wp_load 𝒱₀ (c : Thread nD τ) none Set.univ (m := oM) (Finset.subset_univ _)) $$ Hout; iintro Hout
  iapply (wp_store 𝒱₀ (c : Thread nD τ) none Set.univ (m := oM) (r := oR) (Mk := Finset.univ) (Finset.subset_univ _)) $$ Hout; iintro Hout
  rw [write_o]
  -- the three departures
  iapply (wp_wait_send m ρ K c 0 _ sendS_0 _) $$ [HcS0 HO HatS0]
  · isplitr; · iexact Hrec
    isplitl [HcS0]; · iexact HcS0
    isplitl [HO]; · iexact HO
    iexact HatS0
  iintro ⟨HO, HzS0, Hq0⟩
  iapply (wp_wait_send m ρ K c 1 _ sendS_1 _) $$ [HcS1 HO HatS1]
  · isplitr; · iexact Hrec
    isplitl [HcS1]; · iexact HcS1
    isplitl [HO]; · iexact HO
    iexact HatS1
  iintro ⟨HO, HzS1, Hq1⟩
  iapply (wp_wait_send m ρ K c 2 _ sendS_2 _) $$ [HcS2 HO HatS2]
  · isplitr; · iexact Hrec
    isplitl [HcS2]; · iexact HcS2
    isplitl [HO]; · iexact HO
    iexact HatS2
  iintro ⟨HO, HzS2, Hq2⟩
  imod (close_self m ρ K c) $$ [HatV] with HzV
  · isplitr; · iexact Hrec
    iexact HatV
  rw [wp_ret]; imodintro
  iapply Hk
  unfold bodyPost Φ₁ zeros scratches Dat.owesAt Pipeline.owesWithin
  rw [show (dats m ρ 0 c).owed t₀.succ = 0 from rfl]
  isplitl [Hp Hq Hq0 Hq1 Hq2 Hr Hr0 Hr1 Hr2 HzB HzS0 HzS1 HzS2 HzV HzV0 HzV1 HzV2]
  · isplitl [Hp Hq Hq0 Hq1 Hq2 Hr Hr0 Hr1 Hr2]
    · isplitl [Hp]; · iexists _; iexact Hp
      isplitl [Hq Hq0 Hq1 Hq2]
      · iexists (pbf m ρ c)
        iapply (Entails.of_eq (row_split c (pbf m ρ c)).symm)
        isplitl [Hq]; · iexact Hq
        isplitl [Hq0]; · iexact Hq0
        isplitl [Hq1]; · iexact Hq1
        iexact Hq2
      iapply (recv_join (F := F) c fr)
      unfold slotAny
      isplitl [Hr]; · iexists fr; iexact Hr
      isplitl [Hr0]; · iexists (recvd m ρ c); iexact Hr0
      isplitl [Hr1]; · iexists (recvd m ρ c); iexact Hr1
      iexists (recvd m ρ c); iexact Hr2
    isplitl [HzB]; · iexact HzB
    isplitl [HzS0]; · iexact HzS0
    isplitl [HzS1]; · iexact HzS1
    isplitl [HzS2]; · iexact HzS2
    isplitl [HzV]; · iexact HzV
    isplitl [HzV0]; · iexact HzV0
    isplitl [HzV1]; · iexact HzV1
    iexact HzV2
  isplitl [HO]
  · iexists _
    isplitr; swap; · iexact HO
    ipureintro; exact fun _ _ => Or.inl trivial
  isplitl [Ha]
  · iexists _; isplitr; · (ipureintro; rfl)
    iexact Ha
  isplitl [Hb]
  · iexists _; isplitr; · (ipureintro; rfl)
    iexact Hb
  iexists _; isplitr; swap; · iexact Hout
  ipureintro; rfl

/-- The body's start, as the pipeline hands it over. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

/-- What the pipeline asks of the body on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body aM (Memref.isWhole_whole _) bM (Memref.isWhole_whole _) oM (Memref.isWhole_whole _)
      pM (Memref.isWhole_whole _) qM (Memref.isWhole_whole _) rM (Memref.isWhole_whole _) cc0_scratch3 cc0_scratch4) (fun _ => bodyPost m ρ c)
  unfold bodyPre' Φ₀ start
  iintro ⟨⟨⟨⟨%K, Hg⟩, Hc, Hlev⟩, Hscr⟩, Ho, Ha, Hb, Hout⟩
  iapply (sound_body m ρ K c fun _ => bodyPost m ρ c)
  unfold bodyPre
  isplitr []
  · isplitl [Hg Hc Hlev Hscr]
    · isplitl [Hg]; · iexact Hg
      isplitl [Hc]; · iexact Hc
      isplitl [Hlev]; · iexact Hlev
      iexact Hscr
    isplitl [Ho]; · iexact Ho
    isplitl [Ha]; · iexact Ha
    isplitl [Hb] <;> iassumption
  · iintro H; iexact H

end Body

end Cert.Scatter

end
-- ==== Proof.Run.lean ====
/-
# The launch, and the run

What the launch deals each device, the credit it starts with, and the whole program's run: every execution on the four
devices ends, with each array at contents named here and every counter at zero.
-/
module

public import proofs.«01_k».proof.Proof.Body
public import proofs.«01_k».proof.Proof.Gen.KernelIdeal.Points
public import Idealize.ShloMosaic.Lib.Pipeline.CollectiveSegs
public import Idealize.ShloMosaic.Lib.Quiescent

@[expose] public section

set_option maxRecDepth 16384

noncomputable section

namespace Cert.Scatter

open Cert.KernelIdeal Cert.KernelIdeal.Gen
open Idealize.ShloMosaic Idealize.ShloMosaic.TcCoe
open Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells and the payments, as the launch mints them -/

/-- The kernel's own semaphores are exactly the seven. -/
theorem ownSemFacts : Pipeline.OwnSemFacts cfg0.spec osem := by decide

/-- Every window is held whole. -/
theorem share_eq (c : Dev nD) (w : Fin cfg0.W) : (dats m ρ 0 c).share w = fullShare := by unfold Dat.share; split <;> rfl

/-- The eight semaphores are distinct, -/
theorem csem_injective : Function.Injective csem := by
  have h : ∀ i j, csem i = csem j → i = j := by decide +kernel
  exact fun i j => h i j
/-- and so are the cells. -/
theorem kcell_injective : Function.Injective (kcell : Dev nD × Fin 8 → GSem nD τ sig) := fun x y h =>
  Prod.ext (congrArg (fun g : GSem nD τ sig => g.1.1) h) (csem_injective (congrArg Prod.snd h))
def ringCells : Finset (GSem nD τ sig) := Finset.univ.map ⟨kcell, kcell_injective⟩

/-- The cell a device's payment goes to: three barriers, three receive cells, three send cells. -/
abbrev dueCell (c : Dev nD) : Fin 9 → GSem nD τ sig := fun
  | 0 => barCell (pr 0 c) | 1 => barCell (pr 1 c) | 2 => barCell (pr 2 c)
  | 3 => recvCell (pr 0 c) c | 4 => recvCell (pr 1 c) c | 5 => recvCell (pr 2 c) c
  | 6 => sendCell c 0 | 7 => sendCell c 1 | 8 => sendCell c 2
/-- A device owes each of its cells once; -/
theorem dueCell_injective (c : Dev nD) : Function.Injective (dueCell c) := by
  have h : ∀ (c : Dev nD) (i j : Fin 9), dueCell c i = dueCell c j → i = j := by decide +kernel
  exact fun i j => h c i j
/-- A payment: its cell, its round, its payer. -/
abbrev dueOf (cj : Dev nD × Fin 9) : GSem nD τ sig × ℕ × Dev nD := (dueCell cj.1 cj.2, 0, cj.1)
/-- and no two debts are the same. -/
theorem dueOf_injective : Function.Injective dueOf := by
  rintro ⟨c, i⟩ ⟨d, j⟩ h
  have hc : c = d := congrArg (fun x : GSem nD τ sig × ℕ × Dev nD => x.2.2) h
  subst hc
  exact Prod.ext rfl (dueCell_injective c (congrArg Prod.fst h))
def ringDues : Finset (GSem nD τ sig × ℕ × Dev nD) := Finset.univ.map ⟨dueOf, dueOf_injective⟩

/-- The ghost element of the launch: the staging copies' and the exchange's. -/
def u₀ : UU :=
  (initOf (Pipeline.cells cfgs cellOf_inj) (Pipeline.launchToks cfgs cellOf_inj), initOf ringCells ringDues)

/-- What is dealt to device `c`: its cells' round states, places and marks, and the payments it is to make. -/
def G (c : Dev nD) : sProp 𝕄 :=
  iprop((bigSep Finset.univ fun k : Fin 8 => roundState ER (rd m ρ) (kcell (c, k)) 0)
    ∗ (bigSep Finset.univ fun k : Fin 8 => iprop(atPos ER (kcell (c, k)) 0 ∅ 0 ∗ reached ER (kcell (c, k)) 0)) ∗ dues (F := F) c)

/-- What every device's deal together comes to, once the cells' invariants stand. -/
def G' (c : Dev nD) : sProp 𝕄 := iprop(∃ K, ghost m ρ K c)

/-- Anything said of device `c`'s eight cells, listed by what they are for. -/
theorem cells_eq (c : Dev nD) (Φ : GSem nD τ sig → sProp 𝕄) :
    bigSep Finset.univ (fun k : Fin 8 => Φ (kcell (c, k)))
      = iprop(Φ (barCell c) ∗ Φ (sendCell c 0) ∗ Φ (sendCell c 1) ∗ Φ (sendCell c 2)
        ∗ Φ (recvCell c c) ∗ Φ (recvCell c (pr 0 c)) ∗ Φ (recvCell c (pr 1 c)) ∗ Φ (recvCell c (pr 2 c))) := by
  have hs : ∀ k, kcell (c, sendI k) = sendCell c k := fun k => Prod.ext rfl (csem_send k)
  have hr : ∀ s, kcell (c, recvI s) = recvCell c s := fun s => Prod.ext rfl (csem_recv s)
  rw [bigSep_univ_eq_bigSepL [0, sendI 0, sendI 1, sendI 2, recvI c, recvI (pr 0 c), recvI (pr 1 c), recvI (pr 2 c)]
    (by revert c; decide) (by revert c; decide)]
  show iprop(Φ (kcell (c, 0)) ∗ Φ (kcell (c, sendI 0)) ∗ Φ (kcell (c, sendI 1)) ∗ Φ (kcell (c, sendI 2))
        ∗ Φ (kcell (c, recvI c)) ∗ Φ (kcell (c, recvI (pr 0 c))) ∗ Φ (kcell (c, recvI (pr 1 c))) ∗ Φ (kcell (c, recvI (pr 2 c)))) = _
  rw [hs, hs, hs, hr, hr, hr, hr]

/-- The places of a device's eight cells, one by one. -/
theorem places_eq (c : Dev nD) : (bigSep Finset.univ fun k : Fin 8 => (atPos ER (kcell (c, k)) 0 ∅ 0 : sProp 𝕄)) = places (F := F) c :=
  cells_eq c fun g => atPos ER g 0 ∅ 0
/-- The zero counters of a device's eight cells, one by one. -/
theorem zeros_eq (c : Dev nD) : (bigSep Finset.univ fun k : Fin 8 => (semVal (kcell (c, k)) 0 : sProp 𝕄)) = zeros (F := F) c :=
  cells_eq c fun g => semVal g 0

/-- The launch element is what is dealt. -/
theorem fund_ring : BI.own (ER (initOf ringCells ringDues)) ⊢ (|==> bigSep Finset.univ (G m ρ) : sProp 𝕄) := by
  have hX (Φ : GSem nD τ sig → sProp 𝕄) : bigSep ringCells Φ = bigSep Finset.univ fun c : Dev nD => bigSep Finset.univ fun k : Fin 8 => Φ (kcell (c, k)) := by
    unfold ringCells; rw [bigSep_map, bigSep_univ_prod]; rfl
  have hT : bigSep ringDues (fun x => (dutyTok ER x.1 x.2.1 x.2.2 : sProp 𝕄)) = bigSep Finset.univ fun c : Dev nD => dues (F := F) c := by
    unfold ringDues; rw [bigSep_map, bigSep_univ_prod]
    exact bigSep_congr fun c _ => by
      rw [bigSep_univ_eq_bigSepL [0, 1, 2, 3, 4, 5, 6, 7, 8] (by decide) (by decide)]; rfl
  iintro HX
  imod (Rounds.fund ER (rd m ρ) ringCells ringDues) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The seven own counters and the barrier's are the eight cells' counters. -/
theorem sems0_eq (c : Dev nD) :
    (iprop(unscopedSems0 c ∗ Pipeline.ownSems0 (Ix := Unit) (Name := ℕ) (U := UU) (Lvl := ℕ) (Val := Elt F) (τ := τ) osem c) : sProp 𝕄)
      = bigSep Finset.univ fun k : Fin 8 => semVal (kcell (c, k)) 0 := by
  rw [Pipeline.ownSems0_eq_of_list c osem [0, 1, 2, 3, 4, 5, 6] (by decide) (by decide),
    bigSep_univ_eq_bigSepL [0, 1, 2, 3, 4, 5, 6, 7] (by decide) (by decide)]
  unfold unscopedSems0; rw [bigSep_eq_bigSepL_of_eq [SemLoc.reg barS] (by decide) (by decide)]; rfl

/-- On each device the counters and the round states make the cells' invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ dues (F := F) c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : Fin 8 => semVal (kcell (c, k)) 0) ∗ bigSep Finset.univ fun k : Fin 8 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The invariants and marks of all the cells are shared by every device. -/
theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ dues (F := F) c) : sProp 𝕄)
      ⊢ bigSep Finset.univ (G' m ρ) := by
  rw [bigSep_sep', bigSep_sep', ← bigSep_univ_prod (fun ck : Dev nD × Fin 8 => iprop(∃ κ : ℕ, cellInv ER (rd m ρ) κ (kcell ck))),
    bigSep_congr (s := Finset.univ) (fun (c : Dev nD) _ => bigSep_sep' Finset.univ (fun k : Fin 8 => (atPos ER (kcell (c, k)) 0 ∅ 0 : sProp 𝕄)) (fun k => reached ER (kcell (c, k)) 0)),
    bigSep_sep', ← bigSep_univ_prod (fun ck : Dev nD × Fin 8 => (reached ER (kcell ck) 0 : sProp 𝕄)),
    bigSep_congr (s := Finset.univ) (fun (c : Dev nD) _ => places_eq (F := F) c)]
  iintro ⟨HI, ⟨Hat, HR⟩, Htok⟩
  ihave HK := (BI.bigSep_exists_pi Finset.univ (fun (ck : Dev nD × Fin 8) (κ : ℕ) => (cellInv ER (rd m ρ) κ (kcell ck) : sProp 𝕄))) $$ HI
  icases HK with ⟨%K, HI⟩
  ihave Hrec := (show iprop((bigSep Finset.univ fun ck : Dev nD × Fin 8 => (cellInv ER (rd m ρ) (K ck) (kcell ck) : sProp 𝕄))
      ∗ bigSep Finset.univ fun ck : Dev nD × Fin 8 => reached ER (kcell ck) 0) ⊢ records m ρ K from BI.Entails.refl _) $$ [HI HR]
  · isplitl [HI] <;> iassumption
  ihave Hall := (BI.bigSep_of_persistent (Finset.univ : Finset (Dev nD)) (records m ρ K)) $$ Hrec
  iapply (show iprop((bigSep Finset.univ fun _ : Dev nD => records m ρ K) ∗ (bigSep Finset.univ fun c : Dev nD => places (F := F) c)
      ∗ bigSep Finset.univ fun c : Dev nD => dues (F := F) c) ⊢ (bigSep Finset.univ (G' m ρ) : sProp 𝕄) from by
        rw [← bigSep_sep', ← bigSep_sep']
        exact bigSep_mono fun c _ => (show iprop(ghost m ρ K c) ⊢ G' m ρ c from by
          unfold G'
          iintro H
          iexists K
          iexact H))
  isplitl [Hall]; · iexact Hall
  isplitl [Hat]; · iexact Hat
  iexact Htok

/-- The step from what is dealt to what the bodies start from. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- Barrier cells are the same only on the same device; -/
theorem bar_eq_iff {a b : Dev nD} : barCell a = barCell b ↔ a = b :=
  ⟨fun h => congrArg (fun g : GSem nD τ sig => g.1.1) h, fun h => h ▸ rfl⟩
/-- receive cells only on the same device, for the same sender. -/
theorem recv_eq_iff {a b s t : Dev nD} : recvCell a s = recvCell b t ↔ a = b ∧ s = t := by
  constructor
  · intro h
    have h2 : SemLoc.dma (recvS s) = SemLoc.dma (recvS t) := congrArg Prod.snd h
    have h3 : slotOf (recvS s) = slotOf (recvS t) := by rw [SemLoc.dma.inj h2]
    rw [slotOf_recv, slotOf_recv] at h3
    exact ⟨congrArg (fun g : GSem nD τ sig => g.1.1) h, h3⟩
  · rintro ⟨rfl, rfl⟩; rfl
/-- A barrier cell is no receive cell, -/
theorem bar_ne_recv {a b s : Dev nD} : barCell a ≠ recvCell b s := fun h => by cases congrArg Prod.snd h
/-- and a receive cell no barrier cell. -/
theorem recv_ne_bar {a b s : Dev nD} : recvCell b s ≠ barCell a := fun h => bar_ne_recv h.symm

/-- Every device but `c` owes `c`'s barrier one unit; -/
theorem owed_bar (d c : Dev nD) : O₀ d (barCell c) () = if d = c then 0 else 1 := by
  unfold O₀ O₁
  simp only [Pi.add_apply, Finsupp.add_apply, tallyAt_apply, bar_eq_iff, bar_ne_recv, false_and, and_true, if_false]
  revert c d; decide +kernel
/-- only the sender owes a receive cell, one block's credit. -/
theorem owed_recv (d c : Dev nD) (k : Fin 3) : O₀ d (recvCell c (pr k c)) () = if d = pr k c then N else 0 := by
  unfold O₀ O₁
  simp only [Pi.add_apply, Finsupp.add_apply, tallyAt_apply, recv_eq_iff, recv_ne_bar, false_and, and_true, if_false, Nat.add_zero]
  have key : ∀ (d c : Dev nD) (k : Fin 3),
      (((c = pr 2 d ∧ pr k c = d) ∧ ¬(c = pr 1 d ∧ pr k c = d) ∧ ¬(c = pr 0 d ∧ pr k c = d) ∧ d = pr k c)
      ∨ (¬(c = pr 2 d ∧ pr k c = d) ∧ (c = pr 1 d ∧ pr k c = d) ∧ ¬(c = pr 0 d ∧ pr k c = d) ∧ d = pr k c)
      ∨ (¬(c = pr 2 d ∧ pr k c = d) ∧ ¬(c = pr 1 d ∧ pr k c = d) ∧ (c = pr 0 d ∧ pr k c = d) ∧ d = pr k c)
      ∨ (¬(c = pr 2 d ∧ pr k c = d) ∧ ¬(c = pr 1 d ∧ pr k c = d) ∧ ¬(c = pr 0 d ∧ pr k c = d) ∧ ¬d = pr k c)) := by
    decide +kernel
  rcases key d c k with ⟨h2, h1, h0, h⟩ | ⟨h2, h1, h0, h⟩ | ⟨h2, h1, h0, h⟩ | ⟨h2, h1, h0, h⟩
  · simp only [if_pos h2, if_neg h1, if_neg h0, if_pos h, Nat.add_zero]
  · simp only [if_neg h2, if_pos h1, if_neg h0, if_pos h, Nat.add_zero, Nat.zero_add]
  · simp only [if_neg h2, if_neg h1, if_pos h0, if_pos h, Nat.zero_add]
  · simp only [if_neg h2, if_neg h1, if_neg h0, if_neg h]

/-- The barrier credit a device starts with. -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
/-- The receive credit a device starts with, for each distance. -/
theorem launch_recv (c : Dev nD) (k : Fin 3) :
    tallyOn (recvCell c (pr k c)) (launchCredit (Pipeline.owing O₀) 0 (recvCell c (pr k c))) = (tallyAt (recvCell c (pr k c)) () N : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (pr k c) fun _ => N,
    if_pos (Finset.mem_univ _)]

/-- The launch credit of device `c` covers its barrier's three units and the three blocks it receives. -/
theorem creds (c : Dev nD) : (Pipeline.launchCred O₀ c : sProp 𝕄) ⊢ credits (F := F) c := by
  unfold Pipeline.launchCred credits
  refine BI.Entails.trans (bigSep_subset (Finset.subset_univ
    ([SemLoc.reg barS, .dma (recvS (pr 0 c)), .dma (recvS (pr 1 c)), .dma (recvS (pr 2 c))] : List (SemLoc sig)).toFinset)) ?_
  rw [bigSep_eq_bigSepL _ (by revert c; decide +kernel)]
  rw [← launch_bar, ← launch_recv, ← launch_recv, ← launch_recv]
  exact BI.Entails.refl _

/-! ## The side conditions of the launch theorem -/

/-- A device's start, from what the launch deals it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- The state before the one grid point, from the start. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratches
  iintro ⟨Hs, -, Hr⟩
  isplitl [Hs]; · iexact Hs
  iexact Hr

/-- What the state after the one grid point gives back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ scratches
  rw [← zeros_eq, ← sems0_eq]
  iintro ⟨Hr, Hu, Ho⟩
  isplitl [Hu]; · iexact Hu
  isplitl [Ho]; · iexact Ho
  iexact Hr

/-- Every wait of a device is allowed where it is made. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The contents of window `w`'s array on device `c` at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- At any float values, from any memory: every execution of the program on the four devices ends, with each array at the
    contents named and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The first input holds at the end what it held; -/
theorem finalA_a (c : Dev nD) : finalA m ρ c (0 : Fin 3) = m ((c : Thread nD τ).loc main_arg0) :=
  (dats (F := F) m ρ 0 c).arrAt_in (0 : Fin 3) rfl _
/-- so does the second; -/
theorem finalA_b (c : Dev nD) : finalA m ρ c (1 : Fin 3) = m ((c : Thread nD τ).loc main_arg1) :=
  (dats (F := F) m ρ 0 c).arrAt_in (1 : Fin 3) rfl _

/-- the result's one block is what the body left. -/
theorem finalA_o (c : Dev nD) : (win0_2.blk (0 : Fin 1)).view.read (Elt F) (finalA m ρ c (2 : Fin 3)) = outAt m ρ c := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from flush0_2 _, if_pos rfl]
  exact View.read_write_univ _ _

end Cert.Scatter

end
-- ==== Proof.Value.lean ====
/-
# What the run leaves, as the reference's product

Read at exact values, a device's result is the sum over the four devices of one row block of each one's partial product.
A partial product sums 256 of the 1024 contracted positions, and the four devices' stretches make up all of them, so the
result is that row block of the whole product. Only the commutativity and associativity of the sum are used: nothing is
assumed of the inputs.
-/
module

public import proofs.«01_k».proof.Proof.Run
public import proofs.«01_k».proof.ReferenceIdeal
public import proofs.«01_k».proof.Proof.Gen.ReferenceIdeal
public import Idealize.ShloMosaic.Lib.MatmulPlain
public import Idealize.ShloMosaic.Lib.StackMember
public import Idealize.ShloMosaic.Lib.ValueIdx
public import Idealize.ShloMosaic.Lib.ValueLayout
public import Idealize.ShloMosaic.Lib.Layout
public import Idealize.ShloMosaic.Lib.Pointwise.Sums
public import Idealize.ShloMosaic.Lib.Pointwise.Tactic

@[expose] public section

set_option maxRecDepth 16384

noncomputable section

namespace Cert.Scatter

open Cert.KernelIdeal Cert.KernelIdeal.Gen
open Idealize.ShloMosaic hiding ix2 ix3 eq_ix2
open Idealize.ShloMosaic.TcCoe Idealize.ShloMosaic.ValueIdx Idealize.ShloMosaic.StackMember
open Idealize.ShloMosaic.Pipeline
open Idealize.SL.Sem

/-- Row `r` of row block `d` of a 512 by 512 array, as a row of the array. -/
abbrev rowOf (d : Dev nD) (r : Fin 128) : Fin 512 := ⟨d.val * 128 + r.val, by have h : d.val < 4 := d.isLt; have := r.isLt; omega⟩

/-- Position `k` of device `s`'s stretch of the contracted axis, as a position of the axis. -/
abbrev midOf (s : Dev nD) (k : Fin 256) : Fin 1024 := ⟨s.val * 256 + k.val, by have h : s.val < 4 := s.isLt; have := k.isLt; omega⟩

/-- The index of a row block's entry is the pair of its row in the array and its column. -/
theorem rowIx_pair (d : Dev nD) (r : Fin 128) (j : Fin 512) : rowIx d r j = ix2 (rowOf d r) j :=
  funext fun a => match a with
    | ⟨0, _⟩ => Fin.ext (by show 128 * d.val + r.val = d.val * 128 + r.val; omega)
    | ⟨1, _⟩ => rfl

/-- A device's partial product at an entry: the sum over its 256 contracted positions. -/
theorem product_entry (A : FVec Ideal S512x256 .f32) (B : FVec Ideal S256x512 .f32) (i j : Fin 512) :
    k0_pay2 (F := Ideal) A B (ix2 i j) = ∑ k : Fin 256, A (ix2 i k) * B (ix2 k j) := by
  unfold k0_pay2
  rw [shapeCast_self, shapeCast_self, shapeCast_self]
  refine (Ideal.matmul_plain_apply none A B (constant S512x512 .f32 0x00000000#32) i j).trans ?_
  rw [ValueIdx.constant_apply]
  exact (congrArg (· + _) (Ideal.ofBits_zero .f32)).trans (zero_add _)

section Run

variable (m : (ℓ : Loc nD τ sig) → Buf (Elt Ideal) ℓ) (ρ : Dev nD → PrngReg)

/-- The first operand's staged copy is the device's whole operand; -/
theorem aStg_eq (c : Dev nD) : aStg (F := Ideal) m ρ c = m ((c : Thread nD τ).loc main_arg0) :=
  Memref.read_access_unit_zero (Elt Ideal) main_arg0 (funext fun a => by fin_cases a <;> decide)
    (fun a => by fin_cases a <;> decide) _

/-- the second's likewise; -/
theorem bStg_eq (c : Dev nD) : bStg (F := Ideal) m ρ c = m ((c : Thread nD τ).loc main_arg1) :=
  Memref.read_access_unit_zero (Elt Ideal) main_arg1 (funext fun a => by fin_cases a <;> decide)
    (fun a => by fin_cases a <;> decide) _

/-- and the result array, read through its one block, is the result array. -/
theorem finalA_whole (c : Dev nD) : finalA (F := Ideal) m ρ c 2 = outAt m ρ c :=
  (Memref.read_access_unit_zero (Elt Ideal) main_v1 (funext fun a => by fin_cases a <;> decide)
    (fun a => by fin_cases a <;> decide) _).symm.trans (finalA_o m ρ c)

/-- Entry `(i, j)` of device `s`'s partial product. -/
abbrev entry (s : Dev nD) (i j : Fin 512) : EReal := part (F := Ideal) m ρ s (ix2 i j)

/-- A device's own row block, read at an entry: its partial product there. -/
theorem ownRows_entry (c : Dev nD) (r : Fin 128) (j : Fin 512) :
    ownRows (F := Ideal) m ρ c (ix2 r j) = entry m ρ c (rowOf c r) j := by
  unfold entry
  rw [← rowIx_pair]
  refine congrArg (part m ρ c) (funext fun a => Fin.ext ?_)
  match a with
  | ⟨0, _⟩ => show 128 * c.val + 1 * r.val = 128 * c.val + r.val; omega
  | ⟨1, _⟩ => show 0 + 1 * j.val = j.val; omega

/-- A receive slot, read at an entry: the sender's partial product at the receiver's row block. Rounding for the exchange
changes nothing at exact values. -/
theorem slotVec_entry (c s : Dev nD) (r : Fin 128) (j : Fin 512) :
    slotVec (F := Ideal) m ρ c s (ix3 (0 : Fin 1) r j) = entry m ρ s (rowOf c r) j := by
  have hp : pbf (F := Ideal) m ρ s = part m ρ s := by
    unfold pbf k0_pay3; dsimp only; rw [shapeCast_self]; rfl
  unfold entry
  rw [← rowIx_pair, ← hp]
  have e : ∀ x y : S4x128x512.Idx, (∀ a, (x a : ℕ) = y a) → recvd (F := Ideal) m ρ c x = recvd m ρ c y :=
    fun x y h => congrArg _ (funext fun a => Fin.ext (h a))
  refine (e _ (ix3 s r j) fun a => ?_).trans rfl
  match a with
  | ⟨0, _⟩ => show s.val + 1 * 0 = s.val; omega
  | ⟨1, _⟩ => show 0 + 1 * r.val = r.val; omega
  | ⟨2, _⟩ => show 0 + 1 * j.val = j.val; omega

/-- A device's result at an entry: its own partial product's entry, and the three peers' added in turn. -/
theorem outAt_entry (c : Dev nD) (r : Fin 128) (j : Fin 512) :
    outAt (F := Ideal) m ρ c (ix2 r j) =
      entry m ρ c (rowOf c r) j + entry m ρ (pr 2 c) (rowOf c r) j + entry m ρ (pr 1 c) (rowOf c r) j
        + entry m ρ (pr 0 c) (rowOf c r) j := by
  unfold outAt k0_pay1 k0_pay6 k0_pay5 k0_pay4
  dsimp only
  simp only [shapeCast_self]
  rw [ValueIdx.addf_apply, ValueIdx.addf_apply, ValueIdx.addf_apply, ValueIdx.extf_apply, ValueIdx.extf_apply, ValueIdx.extf_apply, shapeCast_1ab_ab_apply,
    shapeCast_1ab_ab_apply, shapeCast_1ab_ab_apply, ownRows_entry, slotVec_entry, slotVec_entry, slotVec_entry]

/-- The four terms, in the order they are added, are one per device. -/
theorem outAt_sum (c : Dev nD) (r : Fin 128) (j : Fin 512) :
    outAt (F := Ideal) m ρ c (ix2 r j) = ∑ s : Dev nD, entry m ρ s (rowOf c r) j := by
  rw [outAt_entry, all_univ c, List.sum_toFinset _ (all_nodup c)]
  simp only [List.map_cons, List.map_nil, List.sum_cons, List.sum_nil, add_zero]
  abel

/-- Where each device's operands are its blocks of two whole arrays, its result is its row block of their product. -/
theorem outAt_block (A : FVec Ideal ⟨2, ![512, 1024]⟩ .f32) (B : FVec Ideal ⟨2, ![1024, 512]⟩ .f32)
    (hA : ∀ c : Dev nD, m ((c : Thread nD τ).loc main_arg0) = Layout.block ⟨2, ![512, 256]⟩ ⟨2, ![512, 1024]⟩ 1 4 c A)
    (hB : ∀ c : Dev nD, m ((c : Thread nD τ).loc main_arg1) = Layout.block ⟨2, ![256, 512]⟩ ⟨2, ![1024, 512]⟩ 0 4 c B)
    (c : Dev nD) :
    outAt (F := Ideal) m ρ c = Layout.block ⟨2, ![128, 512]⟩ ⟨2, ![512, 512]⟩ 0 4 c
      (Host.dotGeneral (F := Ideal) Cert.ReferenceIdeal.dot_S512x1024_S1024x512_S512x512_1_0_0_1_n_n none A B) := by
  have hpart : ∀ (s : Dev nD) (i j : Fin 512),
      entry m ρ s i j = ∑ k : Fin 256, A (ix2 i (midOf s k)) * B (ix2 (midOf s k) j) := fun s i j => by
    unfold entry part
    rw [aStg_eq, bStg_eq, hA s, hB s]
    refine (product_entry _ _ i j).trans (Finset.sum_congr rfl fun k _ => ?_)
    exact congrArg₂ (· * ·)
      (congrArg A (funext fun a => match a with | ⟨0, _⟩ => rfl | ⟨1, _⟩ => rfl))
      (congrArg B (funext fun a => match a with | ⟨0, _⟩ => rfl | ⟨1, _⟩ => rfl))
  funext i
  obtain ⟨r, j, rfl⟩ : ∃ r j, i = ix2 r j := ⟨_, _, eq_ix2 i⟩
  refine (outAt_sum m ρ c r j).trans ?_
  rw [Finset.sum_congr rfl fun s _ => hpart s (rowOf c r) j, Layout.block_apply]
  refine Eq.trans ?_ (congrArg (Host.dotGeneral (F := Ideal) (DotDims.plain 512 1024 512) none A B)
    (show ix2 (rowOf c r) j = _ from funext fun a => match a with | ⟨0, _⟩ => rfl | ⟨1, _⟩ => rfl))
  rw [dotGeneral_plain_apply]
  exact (Fin.sum_univ_tiles 4 256 rfl fun k => A (ix2 (rowOf c r) k) * B (ix2 k j)).symm

end Run

end Cert.Scatter

end
-- ==== Proof.lean ====
/-
# The certificate

The five claims, from the run (`Run.lean`) and what it leaves (`Value.lean`). The program and its idealization have the
same text, so one run, stated for any float values, serves both.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Scatter

/-- The program and its idealization have the same kernel, -/
theorem defs₀_same {F : FTy → Type} [FloatOps F] : Cert.Kernel.defs₀ (F := F) = Cert.KernelIdeal.defs₀ := by
  unfold Cert.Kernel.defs₀ Cert.KernelIdeal.defs₀
  congr 1
  funext l x
  match l, x with
  | ⟨0, _⟩, (t, s) => rfl

/-- and the same pipeline around it. -/
theorem defs_same {F : FTy → Type} [FloatOps F] : Cert.Kernel.defs (F := F) = Cert.KernelIdeal.defs :=
  congrArg (Pipeline.defs Cert.KernelIdeal.pcfgs) defs₀_same

/-- The program runs, leaves its arguments as they were, and every counter ends at zero. -/
theorem frame_kernel : Cert.quiescent_Kernel := fun m ρ _ => by
  rw [defs_same]
  exact (θ_run Cert.KernelIdeal.defs _ _).mono
    (fun _ h => ⟨fun c => ⟨(h.1 c (0 : Fin 3)).trans (finalA_a m ρ c), (h.1 c (1 : Fin 3)).trans (finalA_b m ρ c)⟩, h.2⟩)
    (run_main (F := Bits) m ρ)

/-- So does its idealization. -/
theorem frame_ideal : Cert.quiescent_KernelIdeal := fun m ρ _ =>
  (θ_run Cert.KernelIdeal.defs _ _).mono
    (fun _ h => ⟨fun c => ⟨(h.1 c (0 : Fin 3)).trans (finalA_a m ρ c), (h.1 c (1 : Fin 3)).trans (finalA_b m ρ c)⟩, h.2⟩)
    (run_main (F := Ideal) m ρ)

/-- So does the reference, which has no counters. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Each device's result is its row block of the reference's product, whatever the inputs. -/
theorem value : Cert.algebraic_KernelIdeal_ReferenceIdeal := fun m ρ m' ρ' _ hagree =>
  ⟨_, (θ_run Cert.KernelIdeal.defs _ _).mono
      (fun _ h c => ⟨(h.1 c (2 : Fin 3)).trans ((finalA_whole m ρ c).trans
          (outAt_block m ρ _ _ (fun c => (hagree c).1) (fun c => (hagree c).2) c)),
        (h.1 c (0 : Fin 3)).trans (finalA_a m ρ c), (h.1 c (1 : Fin 3)).trans (finalA_b m ρ c)⟩)
      (run_main (F := Ideal) m ρ),
    (θ_run Cert.ReferenceIdeal.defs _ _).mono (fun _ h => h 0) (Cert.ReferenceIdeal.Value.run (F := Ideal) m' ρ')⟩

/-- All five claims. -/
theorem claim : Cert.Claim := ⟨Cert.Kernel.Gen.facts, Cert.KernelIdeal.Gen.facts, Cert.ReferenceIdeal.Gen.facts,
  frame_kernel, frame_ideal, frame_reference, trivial, value⟩

end Cert.Proof

end
